-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![16384, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  bcast_S_S256x64 : S_.BroadcastsInDim S256x64 (![] : Fin 0 → Fin S256x64.rank)
  bcast_S_S1024x2 : S_.BroadcastsInDim S1024x2 (![] : Fin 0 → Fin S1024x2.rank)

variable [Facts]

def fn {F : FTy → Type} [FloatOps F] (main_arg0 : FVec F S1024x256 .bf16) (main_arg1 : FVec F S256x64 .bf16) (main_arg2 : IVec S1024x2 32) (main_arg3 : FVec F S4x256x512 .bf16) : IVec S1024x256 1 × IVec S256x64 1 × IVec S1024x2 1 :=
  let main_cst : FVec F S_ .bf16 := constant S_ .bf16 0xFF80#16
  let main_v0 : FVec F S1024x256 .bf16 := broadcastInDim S1024x256 ![] bcast_S_S1024x256 main_cst
  let main_v1 : IVec S1024x256 1 := cmpf .ogt main_arg0 main_v0
  let main_cst_0 : FVec F S_ .bf16 := constant S_ .bf16 0x7F80#16
  let main_v2 : FVec F S1024x256 .bf16 := broadcastInDim S1024x256 ![] bcast_S_S1024x256 main_cst_0
  let main_v3 : IVec S1024x256 1 := cmpf .olt main_arg0 main_v2
  let main_v4 : IVec S1024x256 1 := andi main_v1 main_v3
  let main_cst_1 : FVec F S_ .bf16 := constant S_ .bf16 0xFF80#16
  let main_v5 : FVec F S256x64 .bf16 := broadcastInDim S256x64 ![] bcast_S_S256x64 main_cst_1
  let main_v6 : IVec S256x64 1 := cmpf .ogt main_arg1 main_v5
  let main_cst_2 : FVec F S_ .bf16 := constant S_ .bf16 0x7F80#16
  let main_v7 : FVec F S256x64 .bf16 := broadcastInDim S256x64 ![] bcast_S_S256x64 main_cst_2
  let main_v8 : IVec S256x64 1 := cmpf .olt main_arg1 main_v7
  let main_v9 : IVec S256x64 1 := andi main_v6 main_v8
  let main_c : IVec S_ 32 := constantI S_ 32 0#32
  let main_v10 : IVec S1024x2 32 := broadcastInDim S1024x2 ![] bcast_S_S1024x2 main_c
  let main_v11 : IVec S1024x2 1 := cmpi .sge main_arg2 main_v10
  let main_c_3 : IVec S_ 32 := constantI S_ 32 64#32
  let main_v12 : IVec S1024x2 32 := broadcastInDim S1024x2 ![] bcast_S_S1024x2 main_c_3
  let main_v13 : IVec S1024x2 1 := cmpi .slt main_arg2 main_v12
  let main_v14 : IVec S1024x2 1 := andi main_v11 main_v13
  (main_v4, main_v9, main_v14)
-- ==== Pre_routed_and_finite_ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S_ : Shape := ⟨0, ![]⟩

class Facts : Prop where
  bcast_S_S16384x256 : S_.BroadcastsInDim S16384x256 (![] : Fin 0 → Fin S16384x256.rank)
  bcast_S_S256x64 : S_.BroadcastsInDim S256x64 (![] : Fin 0 → Fin S256x64.rank)
  bcast_S_S16384x2 : S_.BroadcastsInDim S16384x2 (![] : Fin 0 → Fin S16384x2.rank)

variable [Facts]

def fn {F : FTy → Type} [FloatOps F] (main_arg0 : FVec F S16384x256 .bf16) (main_arg1 : FVec F S256x64 .bf16) (main_arg2 : IVec S16384x2 32) (main_arg3 : FVec F S64x256x512 .bf16) : IVec S16384x256 1 × IVec S256x64 1 × IVec S16384x2 1 :=
  let main_cst : FVec F S_ .bf16 := constant S_ .bf16 0xFF80#16
  let main_v0 : FVec F S16384x256 .bf16 := broadcastInDim S16384x256 ![] bcast_S_S16384x256 main_cst
  let main_v1 : IVec S16384x256 1 := cmpf .ogt main_arg0 main_v0
  let main_cst_0 : FVec F S_ .bf16 := constant S_ .bf16 0x7F80#16
  let main_v2 : FVec F S16384x256 .bf16 := broadcastInDim S16384x256 ![] bcast_S_S16384x256 main_cst_0
  let main_v3 : IVec S16384x256 1 := cmpf .olt main_arg0 main_v2
  let main_v4 : IVec S16384x256 1 := andi main_v1 main_v3
  let main_cst_1 : FVec F S_ .bf16 := constant S_ .bf16 0xFF80#16
  let main_v5 : FVec F S256x64 .bf16 := broadcastInDim S256x64 ![] bcast_S_S256x64 main_cst_1
  let main_v6 : IVec S256x64 1 := cmpf .ogt main_arg1 main_v5
  let main_cst_2 : FVec F S_ .bf16 := constant S_ .bf16 0x7F80#16
  let main_v7 : FVec F S256x64 .bf16 := broadcastInDim S256x64 ![] bcast_S_S256x64 main_cst_2
  let main_v8 : IVec S256x64 1 := cmpf .olt main_arg1 main_v7
  let main_v9 : IVec S256x64 1 := andi main_v6 main_v8
  let main_c : IVec S_ 32 := constantI S_ 32 0#32
  let main_v10 : IVec S16384x2 32 := broadcastInDim S16384x2 ![] bcast_S_S16384x2 main_c
  let main_v11 : IVec S16384x2 1 := cmpi .sge main_arg2 main_v10
  let main_c_3 : IVec S_ 32 := constantI S_ 32 64#32
  let main_v12 : IVec S16384x2 32 := broadcastInDim S16384x2 ![] bcast_S_S16384x2 main_c_3
  let main_v13 : IVec S16384x2 1 := cmpi .slt main_arg2 main_v12
  let main_v14 : IVec S16384x2 1 := andi main_v11 main_v13
  (main_v4, main_v9, main_v14)
-- ==== Kernel.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S1024x512 : Shape := ⟨2, ![1024, 512]⟩
abbrev S16x4x256x512 : Shape := ⟨4, ![16, 4, 256, 512]⟩
abbrev S1024x64 : Shape := ⟨2, ![1024, 64]⟩
abbrev S8x4 : Shape := ⟨2, ![8, 4]⟩
abbrev S7x4 : Shape := ⟨2, ![7, 4]⟩
abbrev S_ : Shape := ⟨0, ![]⟩
abbrev S1x256x512 : Shape := ⟨3, ![1, 256, 512]⟩
abbrev S256x512 : Shape := ⟨2, ![256, 512]⟩
abbrev S1x1x256x512 : Shape := ⟨4, ![1, 1, 256, 512]⟩
abbrev S1x1 : Shape := ⟨2, ![1, 1]⟩
abbrev S1024 : Shape := ⟨1, ![1024]⟩
abbrev S1024x1 : Shape := ⟨2, ![1024, 1]⟩
abbrev S64x4 : Shape := ⟨2, ![64, 4]⟩
abbrev S1024x4 : Shape := ⟨2, ![1024, 4]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x2, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S256x64, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .f32⟩
  | .local _ .vmem, ⟨5, _⟩ => ⟨S16x4x256x512, .bf16⟩
  | .local _ .vmem, ⟨6, _⟩ => ⟨S1024x256, .bf16⟩
  | .local _ .vmem, ⟨7, _⟩ => ⟨S1024x64, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 2 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_42 : BitVec 32 := 1#32
  let v33 : BitVec 32 := Scalar.muli v7 c1_i32_42
  let v34 : BitVec 32 := Scalar.addi c0_i32_43 v33
  v34.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_55 : BitVec 32 := 1#32
  let v43 : BitVec 32 := Scalar.muli v5 c1_i32_55
  let v44 : BitVec 32 := Scalar.addi c0_i32_56 v43
  v44.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_69 : BitVec 32 := 1#32
  let v53 : BitVec 32 := Scalar.muli v7 c1_i32_69
  let v54 : BitVec 32 := Scalar.addi c0_i32_70 v53
  v54.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_83 : BitVec 32 := 1#32
  let v63 : BitVec 32 := Scalar.muli v5 c1_i32_83
  let v64 : BitVec 32 := Scalar.addi c0_i32_84 v63
  v64.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_97 : BitVec 32 := 1#32
  let v73 : BitVec 32 := Scalar.muli v7 c1_i32_97
  let v74 : BitVec 32 := Scalar.addi c0_i32_98 v73
  v74.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_111 : BitVec 32 := 1#32
  let v83 : BitVec 32 := Scalar.muli v5 c1_i32_111
  let v84 : BitVec 32 := Scalar.addi c0_i32_112 v83
  v84.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_124 : BitVec 32 := 1#32
  let v93 : BitVec 32 := Scalar.muli v7 c1_i32_124
  let v94 : BitVec 32 := Scalar.addi c0_i32_125 v93
  v94.toNat
def k0_dev10 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_138 : BitVec 32 := 1#32
  let v103 : BitVec 32 := Scalar.muli v5 c1_i32_138
  let v104 : BitVec 32 := Scalar.addi c0_i32_139 v103
  v104.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_219 : BitVec 32 := 1#32
  let v200 : BitVec 32 := Scalar.muli v7 c1_i32_219
  let v201 : BitVec 32 := Scalar.addi c0_i32_220 v200
  v201.toNat
def k0_dev12 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_247 : BitVec 32 := 1#32
  let v218 : BitVec 32 := Scalar.muli v7 c1_i32_247
  let v219 : BitVec 32 := Scalar.addi c0_i32_248 v218
  v219.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_275 : BitVec 32 := 1#32
  let v236 : BitVec 32 := Scalar.muli v7 c1_i32_275
  let v237 : BitVec 32 := Scalar.addi c0_i32_276 v236
  v237.toNat
def k0_dev14 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_303 : BitVec 32 := 1#32
  let v254 : BitVec 32 := Scalar.muli v7 c1_i32_303
  let v255 : BitVec 32 := Scalar.addi c0_i32_304 v254
  v255.toNat
def k0_dev15 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_330 : BitVec 32 := 1#32
  let v272 : BitVec 32 := Scalar.muli v5 c1_i32_330
  let v273 : BitVec 32 := Scalar.addi c0_i32_331 v272
  v273.toNat
def k0_dev16 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_358 : BitVec 32 := 1#32
  let v290 : BitVec 32 := Scalar.muli v5 c1_i32_358
  let v291 : BitVec 32 := Scalar.addi c0_i32_359 v290
  v291.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_386 : BitVec 32 := 1#32
  let v308 : BitVec 32 := Scalar.muli v5 c1_i32_386
  let v309 : BitVec 32 := Scalar.addi c0_i32_387 v308
  v309.toNat
def k0_dev18 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_414 : BitVec 32 := 1#32
  let v326 : BitVec 32 := Scalar.muli v5 c1_i32_414
  let v327 : BitVec 32 := Scalar.addi c0_i32_415 v326
  v327.toNat
def k0_dev19 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_518 : BitVec 32 := 1#32
  let v439 : BitVec 32 := Scalar.muli v7 c1_i32_518
  let v440 : BitVec 32 := Scalar.addi c0_i32_519 v439
  v440.toNat
def k0_dev20 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_546 : BitVec 32 := 1#32
  let v457 : BitVec 32 := Scalar.muli v7 c1_i32_546
  let v458 : BitVec 32 := Scalar.addi c0_i32_547 v457
  v458.toNat
def k0_dev21 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_574 : BitVec 32 := 1#32
  let v475 : BitVec 32 := Scalar.muli v7 c1_i32_574
  let v476 : BitVec 32 := Scalar.addi c0_i32_575 v475
  v476.toNat
def k0_dev22 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_602 : BitVec 32 := 1#32
  let v493 : BitVec 32 := Scalar.muli v7 c1_i32_602
  let v494 : BitVec 32 := Scalar.addi c0_i32_603 v493
  v494.toNat
def k0_dev23 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_629 : BitVec 32 := 1#32
  let v511 : BitVec 32 := Scalar.muli v5 c1_i32_629
  let v512 : BitVec 32 := Scalar.addi c0_i32_630 v511
  v512.toNat
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_657 : BitVec 32 := 1#32
  let v529 : BitVec 32 := Scalar.muli v5 c1_i32_657
  let v530 : BitVec 32 := Scalar.addi c0_i32_658 v529
  v530.toNat
def k0_dev25 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_685 : BitVec 32 := 1#32
  let v547 : BitVec 32 := Scalar.muli v5 c1_i32_685
  let v548 : BitVec 32 := Scalar.addi c0_i32_686 v547
  v548.toNat
def k0_dev26 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_713 : BitVec 32 := 1#32
  let v565 : BitVec 32 := Scalar.muli v5 c1_i32_713
  let v566 : BitVec 32 := Scalar.addi c0_i32_714 v565
  v566.toNat
def k0_dev27 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_817 : BitVec 32 := 1#32
  let v678 : BitVec 32 := Scalar.muli v7 c1_i32_817
  let v679 : BitVec 32 := Scalar.addi c0_i32_818 v678
  v679.toNat
def k0_dev28 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_845 : BitVec 32 := 1#32
  let v696 : BitVec 32 := Scalar.muli v7 c1_i32_845
  let v697 : BitVec 32 := Scalar.addi c0_i32_846 v696
  v697.toNat
def k0_dev29 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_873 : BitVec 32 := 1#32
  let v714 : BitVec 32 := Scalar.muli v7 c1_i32_873
  let v715 : BitVec 32 := Scalar.addi c0_i32_874 v714
  v715.toNat
def k0_dev30 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_901 : BitVec 32 := 1#32
  let v732 : BitVec 32 := Scalar.muli v7 c1_i32_901
  let v733 : BitVec 32 := Scalar.addi c0_i32_902 v732
  v733.toNat
def k0_dev31 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_928 : BitVec 32 := 1#32
  let v750 : BitVec 32 := Scalar.muli v5 c1_i32_928
  let v751 : BitVec 32 := Scalar.addi c0_i32_929 v750
  v751.toNat
def k0_dev32 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_956 : BitVec 32 := 1#32
  let v768 : BitVec 32 := Scalar.muli v5 c1_i32_956
  let v769 : BitVec 32 := Scalar.addi c0_i32_957 v768
  v769.toNat
def k0_dev33 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_984 : BitVec 32 := 1#32
  let v786 : BitVec 32 := Scalar.muli v5 c1_i32_984
  let v787 : BitVec 32 := Scalar.addi c0_i32_985 v786
  v787.toNat
def k0_dev34 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1012 : BitVec 32 := 1#32
  let v804 : BitVec 32 := Scalar.muli v5 c1_i32_1012
  let v805 : BitVec 32 := Scalar.addi c0_i32_1013 v804
  v805.toNat
def k0_dev35 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1115 : BitVec 32 := 1#32
  let v917 : BitVec 32 := Scalar.muli v7 c1_i32_1115
  let v918 : BitVec 32 := Scalar.addi c0_i32_1116 v917
  v918.toNat
def k0_dev36 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1143 : BitVec 32 := 1#32
  let v935 : BitVec 32 := Scalar.muli v7 c1_i32_1143
  let v936 : BitVec 32 := Scalar.addi c0_i32_1144 v935
  v936.toNat
def k0_dev37 (d0 : Dev nD) : Nat :=
  let c0_i32_1172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1171 : BitVec 32 := 1#32
  let v953 : BitVec 32 := Scalar.muli v7 c1_i32_1171
  let v954 : BitVec 32 := Scalar.addi c0_i32_1172 v953
  v954.toNat
def k0_dev38 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1199 : BitVec 32 := 1#32
  let v971 : BitVec 32 := Scalar.muli v7 c1_i32_1199
  let v972 : BitVec 32 := Scalar.addi c0_i32_1200 v971
  v972.toNat
def k0_dev39 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1226 : BitVec 32 := 1#32
  let v989 : BitVec 32 := Scalar.muli v5 c1_i32_1226
  let v990 : BitVec 32 := Scalar.addi c0_i32_1227 v989
  v990.toNat
def k0_dev40 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1254 : BitVec 32 := 1#32
  let v1007 : BitVec 32 := Scalar.muli v5 c1_i32_1254
  let v1008 : BitVec 32 := Scalar.addi c0_i32_1255 v1007
  v1008.toNat
def k0_dev41 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1282 : BitVec 32 := 1#32
  let v1025 : BitVec 32 := Scalar.muli v5 c1_i32_1282
  let v1026 : BitVec 32 := Scalar.addi c0_i32_1283 v1025
  v1026.toNat
def k0_dev42 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1310 : BitVec 32 := 1#32
  let v1043 : BitVec 32 := Scalar.muli v5 c1_i32_1310
  let v1044 : BitVec 32 := Scalar.addi c0_i32_1311 v1043
  v1044.toNat
def k0_dev43 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1412 : BitVec 32 := 1#32
  let v1156 : BitVec 32 := Scalar.muli v7 c1_i32_1412
  let v1157 : BitVec 32 := Scalar.addi c0_i32_1413 v1156
  v1157.toNat
def k0_dev44 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1440 : BitVec 32 := 1#32
  let v1174 : BitVec 32 := Scalar.muli v7 c1_i32_1440
  let v1175 : BitVec 32 := Scalar.addi c0_i32_1441 v1174
  v1175.toNat
def k0_dev45 (d0 : Dev nD) : Nat :=
  let c0_i32_1469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1468 : BitVec 32 := 1#32
  let v1192 : BitVec 32 := Scalar.muli v7 c1_i32_1468
  let v1193 : BitVec 32 := Scalar.addi c0_i32_1469 v1192
  v1193.toNat
def k0_dev46 (d0 : Dev nD) : Nat :=
  let c0_i32_1497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1496 : BitVec 32 := 1#32
  let v1210 : BitVec 32 := Scalar.muli v7 c1_i32_1496
  let v1211 : BitVec 32 := Scalar.addi c0_i32_1497 v1210
  v1211.toNat
def k0_dev47 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1523 : BitVec 32 := 1#32
  let v1228 : BitVec 32 := Scalar.muli v5 c1_i32_1523
  let v1229 : BitVec 32 := Scalar.addi c0_i32_1524 v1228
  v1229.toNat
def k0_dev48 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1551 : BitVec 32 := 1#32
  let v1246 : BitVec 32 := Scalar.muli v5 c1_i32_1551
  let v1247 : BitVec 32 := Scalar.addi c0_i32_1552 v1246
  v1247.toNat
def k0_dev49 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1579 : BitVec 32 := 1#32
  let v1264 : BitVec 32 := Scalar.muli v5 c1_i32_1579
  let v1265 : BitVec 32 := Scalar.addi c0_i32_1580 v1264
  v1265.toNat
def k0_dev50 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1607 : BitVec 32 := 1#32
  let v1282 : BitVec 32 := Scalar.muli v5 c1_i32_1607
  let v1283 : BitVec 32 := Scalar.addi c0_i32_1608 v1282
  v1283.toNat
def k0_dev51 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1709 : BitVec 32 := 1#32
  let v1395 : BitVec 32 := Scalar.muli v7 c1_i32_1709
  let v1396 : BitVec 32 := Scalar.addi c0_i32_1710 v1395
  v1396.toNat
def k0_dev52 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1737 : BitVec 32 := 1#32
  let v1413 : BitVec 32 := Scalar.muli v7 c1_i32_1737
  let v1414 : BitVec 32 := Scalar.addi c0_i32_1738 v1413
  v1414.toNat
def k0_dev53 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1765 : BitVec 32 := 1#32
  let v1431 : BitVec 32 := Scalar.muli v7 c1_i32_1765
  let v1432 : BitVec 32 := Scalar.addi c0_i32_1766 v1431
  v1432.toNat
def k0_dev54 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1793 : BitVec 32 := 1#32
  let v1449 : BitVec 32 := Scalar.muli v7 c1_i32_1793
  let v1450 : BitVec 32 := Scalar.addi c0_i32_1794 v1449
  v1450.toNat
def k0_dev55 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1820 : BitVec 32 := 1#32
  let v1467 : BitVec 32 := Scalar.muli v5 c1_i32_1820
  let v1468 : BitVec 32 := Scalar.addi c0_i32_1821 v1467
  v1468.toNat
def k0_dev56 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1848 : BitVec 32 := 1#32
  let v1485 : BitVec 32 := Scalar.muli v5 c1_i32_1848
  let v1486 : BitVec 32 := Scalar.addi c0_i32_1849 v1485
  v1486.toNat
def k0_dev57 (d0 : Dev nD) : Nat :=
  let c0_i32_1877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1876 : BitVec 32 := 1#32
  let v1503 : BitVec 32 := Scalar.muli v5 c1_i32_1876
  let v1504 : BitVec 32 := Scalar.addi c0_i32_1877 v1503
  v1504.toNat
def k0_dev58 (d0 : Dev nD) : Nat :=
  let c0_i32_1905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1904 : BitVec 32 := 1#32
  let v1521 : BitVec 32 := Scalar.muli v5 c1_i32_1904
  let v1522 : BitVec 32 := Scalar.addi c0_i32_1905 v1521
  v1522.toNat
def k0_dev59 (d0 : Dev nD) : Nat :=
  let c0_i32_2007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2006 : BitVec 32 := 1#32
  let v1634 : BitVec 32 := Scalar.muli v7 c1_i32_2006
  let v1635 : BitVec 32 := Scalar.addi c0_i32_2007 v1634
  v1635.toNat
def k0_dev60 (d0 : Dev nD) : Nat :=
  let c0_i32_2035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2034 : BitVec 32 := 1#32
  let v1652 : BitVec 32 := Scalar.muli v7 c1_i32_2034
  let v1653 : BitVec 32 := Scalar.addi c0_i32_2035 v1652
  v1653.toNat
def k0_dev61 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2062 : BitVec 32 := 1#32
  let v1670 : BitVec 32 := Scalar.muli v7 c1_i32_2062
  let v1671 : BitVec 32 := Scalar.addi c0_i32_2063 v1670
  v1671.toNat
def k0_dev62 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2090 : BitVec 32 := 1#32
  let v1688 : BitVec 32 := Scalar.muli v7 c1_i32_2090
  let v1689 : BitVec 32 := Scalar.addi c0_i32_2091 v1688
  v1689.toNat
def k0_dev63 (d0 : Dev nD) : Nat :=
  let c0_i32_3103_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3102_r0 : BitVec 32 := 1#32
  let v2266_r0 : BitVec 32 := Scalar.muli v5 c1_i32_3102_r0
  let v2267_r0 : BitVec 32 := Scalar.addi c0_i32_3103_r0 v2266_r0
  v2267_r0.toNat
def k0_dev64 (d0 : Dev nD) : Nat :=
  let c0_i32_3106_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3105_r0 : BitVec 32 := 1#32
  let v2268_r0 : BitVec 32 := Scalar.muli v7 c1_i32_3105_r0
  let v2269_r0 : BitVec 32 := Scalar.addi c0_i32_3106_r0 v2268_r0
  v2269_r0.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S16384x256x512 : Shape := ⟨3, ![16384, 256, 512]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x64, .bf16⟩
  | .hbm, ⟨2, _⟩ => ⟨S16384x2, .i32⟩
  | .hbm, ⟨3, _⟩ => ⟨S64x256x512, .bf16⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x1, .i32⟩
  | .hbm, ⟨17, _⟩ => ⟨S16384, .i32⟩
  | .hbm, ⟨18, _⟩ => ⟨S16384x1, .i32⟩
  | .hbm, ⟨19, _⟩ => ⟨S16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S16384x1, .f32⟩
  | .hbm, ⟨30, _⟩ => ⟨S16384x1, .i32⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S_, .i32⟩
  | .hbm, ⟨35, _⟩ => ⟨S16384x1, .i32⟩
  | .hbm, ⟨36, _⟩ => ⟨S16384x1, .i32⟩
  | .hbm, ⟨37, _⟩ => ⟨S16384x1, .i32⟩
  | .hbm, ⟨38, _⟩ => ⟨S16384x1x1, .i32⟩
  | .hbm, ⟨39, _⟩ => ⟨S16384x1, .f32⟩
  | .hbm, ⟨40, _⟩ => ⟨S16384x1, .f32⟩
  | .hbm, ⟨41, _⟩ => ⟨S16384x1, .i32⟩
  | .hbm, ⟨42, _⟩ => ⟨S16384x256x512, .bf16⟩
  | .hbm, ⟨43, _⟩ => ⟨S16384x1, .i32⟩
  | .hbm, ⟨44, _⟩ => ⟨S16384x256x512, .bf16⟩
  | .hbm, ⟨45, _⟩ => ⟨S16384x512, .f32⟩
  | .hbm, ⟨46, _⟩ => ⟨S16384x512, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S16384x1, .f32⟩
  | .hbm, ⟨51, _⟩ => ⟨S16384x512, .f32⟩
  | .hbm, ⟨52, _⟩ => ⟨S16384x512, .f32⟩
  | .hbm, ⟨53, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_v19 : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.IProg.lean ====
/-
The kernel's body written once more with its loops: a forward and a backward stream of chunk transfers, numbered
by hop and chunk, and sixteen `consume`s. The printed body is the unrolling of this program.
-/
module

public import proofs.«01_k».proof.Proof.Gen.KernelIdeal.Launch
public import proofs.«01_k».proof.Proof.Gen.KernelIdeal.Points

@[expose] public section

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

/-! ## Memrefs and semaphores -/

abbrev xM : Memref sig .tc .vmem S1024x256 .bf16 := Memref.whole cc0_stg0_0
abbrev rwM : Memref sig .tc .vmem S256x64 .bf16 := Memref.whole cc0_stg1_0
abbrev ixM : Memref sig .tc .vmem S1024x2 .i32 := Memref.whole cc0_stg2_0
abbrev ewM : Memref sig .tc .vmem S4x256x512 .bf16 := Memref.whole cc0_stg3_0
abbrev oM : Memref sig .tc .vmem S1024x512 .f32 := Memref.whole cc0_stg4_0
abbrev cM : Memref sig .tc .vmem S16x4x256x512 .bf16 := Memref.whole cc0_scratch0
abbrev xbM : Memref sig .tc .vmem S1024x256 .bf16 := Memref.whole cc0_scratch1
abbrev gM : Memref sig .tc .vmem S1024x64 .f32 := Memref.whole cc0_scratch2

/-- The runtime's barrier semaphore and the scoped one of the exit handshake. -/
abbrev barS : Idealize.ShloMosaic.Sem sig := (SemArray.scalar (sig.barrier 0 rfl) : Sems sig S_).sem
abbrev exS : Idealize.ShloMosaic.Sem sig := (cc0_scoped0 : Sems sig S_).sem

/-- Chunk `k` of slot `s` lies in the communication buffer. -/
theorem inb_slot (s : Fin 16) (k : Fin 4) :
    ∀ a, (![s.val, k.val, 0, 0] : Fin 4 → Nat) a + S1x1x256x512.size a ≤ S16x4x256x512.size a := by
  revert s k; decide

theorem words_slot (s : Fin 16) (k : Fin 4) :
    (Rect.unit (s := S16x4x256x512) ![s.val, k.val, 0, 0] S1x1x256x512.size (inb_slot s k)).WholeWords (EltTy.packing .bf16) := by
  revert s k; decide

theorem packed_slot (s : Fin 16) (k : Fin 4) :
    (Rect.unit (s := S16x4x256x512) ![s.val, k.val, 0, 0] S1x1x256x512.size (inb_slot s k)).PackedRows (EltTy.packing .bf16) := by
  revert s k; decide

theorem inb_w (k : Fin 4) : ∀ a, (![k.val, 0, 0] : Fin 3 → Nat) a + S1x256x512.size a ≤ S4x256x512.size a := by
  revert k; decide

theorem inb8 (h : Fin 8) (k : Fin 4) : ∀ a, (![h.val, k.val] : Fin 2 → Nat) a + S1x1.size a ≤ S8x4.size a := by
  revert h k; decide

theorem inb7 (h : Fin 7) (k : Fin 4) : ∀ a, (![h.val, k.val] : Fin 2 → Nat) a + S1x1.size a ≤ S7x4.size a := by
  revert h k; decide

/-- The rectangle of chunk `k` of slot `s`. -/
abbrev rS (s : Fin 16) (k : Fin 4) : Rect S16x4x256x512 := Rect.unit (s := S16x4x256x512) ![s.val, k.val, 0, 0] S1x1x256x512.size (inb_slot s k)
/-- The rectangle of expert `k` of the device's own four. -/
abbrev rW (k : Fin 4) : Rect S4x256x512 := Rect.unit (s := S4x256x512) ![k.val, 0, 0] S1x256x512.size (inb_w k)

/-- Chunk `k` of slot `s` as the transfers name it. -/
def slotM (s : Fin 16) (k : Fin 4) : Memref sig .tc .vmem S256x512 .bf16 :=
  (cM.slice (rS s k) (fun _ => rfl)).squeeze S256x512 squeezes_S1x1x256x512_S256x512

def fsS (h : Fin 8) (k : Fin 4) : DmaSems sig S_ :=
  (cc0_scratch3.slice (Rect.unit (s := S8x4) ![h.val, k.val] S1x1.size (inb8 h k))).squeeze S_ squeezes_S1x1_S_
def frS (h : Fin 8) (k : Fin 4) : DmaSems sig S_ :=
  (cc0_scratch4.slice (Rect.unit (s := S8x4) ![h.val, k.val] S1x1.size (inb8 h k))).squeeze S_ squeezes_S1x1_S_
def bsS (h : Fin 7) (k : Fin 4) : DmaSems sig S_ :=
  (cc0_scratch5.slice (Rect.unit (s := S7x4) ![h.val, k.val] S1x1.size (inb7 h k))).squeeze S_ squeezes_S1x1_S_
def brS (h : Fin 7) (k : Fin 4) : DmaSems sig S_ :=
  (cc0_scratch6.slice (Rect.unit (s := S7x4) ![h.val, k.val] S1x1.size (inb7 h k))).squeeze S_ squeezes_S1x1_S_

theorem slot_exact (s : Fin 16) (k : Fin 4) : (slotM s k).view.WordExact :=
  (((Memref.isWhole_whole cc0_scratch0 : cM.IsWhole)).wordExact_slice rfl _ (words_slot s k)).reshape _ _

/-! ## The steps -/

/-- The programs of one TensorCore. -/
abbrev Pr (F : FTy → Type) (α : Type) : Type 1 := Prog (TpuEff nD τ sig (Elt F) Λ₀ .tc) α

/-- The transfers one device issues: forward ones `(h, k)` to the right, backward ones to the left. -/
abbrev Tr : Type := (Fin 8 × Fin 4) ⊕ (Fin 7 × Fin 4)

/-- The chunk a transfer moves, -/
def ck : Tr → Fin 4
  | .inl x => x.2
  | .inr x => x.2
/-- the slot it reads, -/
def ss : Tr → Fin 16
  | .inl x => Fin.ofNat 16 x.1.val
  | .inr x => Fin.ofNat 16 (16 - x.1.val)
/-- the slot it writes, -/
def ds : Tr → Fin 16
  | .inl x => Fin.ofNat 16 (x.1.val + 1)
  | .inr x => Fin.ofNat 16 (15 - x.1.val)
/-- the device it writes to, -/
def tdev (c : Dev nD) : Tr → Dev nD
  | .inl _ => ⟨k0_dev3 c, k0_dev3_lt c⟩
  | .inr _ => ⟨k0_dev4 c, k0_dev4_lt c⟩
/-- the semaphore raised when it has left, -/
def sS : Tr → DmaSem sig
  | .inl x => (fsS x.1 x.2).sem
  | .inr x => (bsS x.1 x.2).sem
/-- and the one raised when it has landed. -/
def vS : Tr → DmaSem sig
  | .inl x => (frS x.1 x.2).sem
  | .inr x => (brS x.1 x.2).sem

/-- Issue transfer `i`. -/
def send (c : Dev nD) (i : Tr) : Pr F PUnit :=
  Prog.lift (.enqueueDma (slotM (ss i) (ck i))
    (.remote (Dev.tc (tdev c i)) (slotM (ds i) (ck i)) (.dma (sS i))) (.dma (vS i))
    (slot_exact _ _) (slot_exact _ _) ⟨⟨rfl, Or.inl rfl⟩, trivial⟩)
/-- Wait for transfer `i` into this device; -/
def wait (i : Tr) : Pr F PUnit :=
  Prog.lift (.waitDma2 (vS i) (slotM (ss i) (ck i)) (slotM (ds i) (ck i)) (slot_exact _ _) (slot_exact _ _))
/-- wait for this device's own transfer `i` to have left. -/
def drain (i : Tr) : Pr F PUnit :=
  Prog.lift (.waitDma2 (sS i) (slotM (ds i) (ck i)) (slotM (ss i) (ck i)) (slot_exact _ _) (slot_exact _ _))

/-- Own expert `k` into chunk `k` of slot 0. -/
def fill (k : Fin 4) : Pr F PUnit := do
  let w : Vec F S1x256x512 .bf16 ← Prog.lift (.load ewM (rW k).toLoadRect (View.loadsAt_vmem h_S1x256x512))
  let _ : Vec F S1x1x256x512 .bf16 ← Prog.lift (.load cM (rS 0 k).toLoadRect (View.loadsAt_vmem h_S1x1x256x512))
  Prog.lift (.store cM (rS 0 k) (shapeCast S1x1x256x512 (shapeCast S256x512 w shapeCasts_S1x256x512_S256x512) shapeCasts_S256x512_S1x1x256x512)
    Finset.univ (View.stores_vmem h_S1x1x256x512 ((Memref.isWhole_whole cc0_scratch0 : cM.IsWhole).storeExact_slice rfl _ (packed_slot 0 k)) (fun _ => rfl)) (.inl rfl))

abbrev rX : Rect S1024x256 := Rect.unit (s := S1024x256) ![0, 0] S1024x256.size inb_S1024x256_S1024x256_0_0
abbrev rRw : Rect S256x64 := Rect.unit (s := S256x64) ![0, 0] S256x64.size inb_S256x64_S256x64_0_0
abbrev rI0 : Rect S1024x2 := Rect.unit (s := S1024x2) ![0, 0] S1024x1.size inb_S1024x2_S1024x1_0_0
abbrev rI1 : Rect S1024x2 := Rect.unit (s := S1024x2) ![0, 1] S1024x1.size inb_S1024x2_S1024x1_0_1
abbrev rG : Rect S1024x64 := Rect.unit (s := S1024x64) ![0, 0] S1024x64.size inb_S1024x64_S1024x64_0_0
abbrev rO : Rect S1024x512 := Rect.unit (s := S1024x512) ![0, 0] S1024x512.size inb_S1024x512_S1024x512_0_0

/-- The exponentials of the router's scores, each row's maximum subtracted. -/
def expPay (x : FVec F S1024x256 .bf16) (rw : FVec F S256x64 .bf16) : FVec F S1024x64 .f32 :=
  have s := matmul dot_S1024x256_S256x64_S1024x64_1_0_0_1_n_n none x rw (constant S1024x64 .f32 0x00000000#32)
  exp (subf s (broadcastTo S1024x64 (shapeCast S1024x1
    (multiReduction .maximumf [1] S1024 s 0xFF800000#32 reduces_S1024x64_S1024 (.inl rfl) rfl) shapeCasts_S1024_S1024x1) broadcasts_S1024x1_S1024x64))

/-- The gates: the exponentials at the two named experts, over their sum. -/
def gatePay (p : FVec F S1024x64 .f32) (i0 i1 : IVec S1024x1 32) : FVec F S1024x64 .f32 :=
  have e := iota .tc S1024x64 32 [1] iota_S1024x64_d1_w32
  have m0 := cmpi .eq e (broadcastTo S1024x64 (shapeCast S1024x1 i0 shapeCasts_S1024x1_S1024x1) broadcasts_S1024x1_S1024x64)
  have m1 := cmpi .eq e (broadcastTo S1024x64 (shapeCast S1024x1 i1 shapeCasts_S1024x1_S1024x1) broadcasts_S1024x1_S1024x64)
  have gp := select (ori m0 m1) p (broadcast S1024x64 (Scalar.ofBits .f32 0x00000000#32 : F .f32))
  divf gp (broadcastTo S1024x64 (shapeCast S1024x1
    (multiReduction .add [1] S1024 gp 0x00000000#32 reduces_S1024x64_S1024 (.inl rfl) rfl) shapeCasts_S1024_S1024x1) broadcasts_S1024x1_S1024x64)

/-- The gating stage: the gates and the tokens into their scratch buffers, the result cleared. -/
def gating : Pr F PUnit := do
  let x0 : Vec F S1024x256 .bf16 ← Prog.lift (.load xM rX.toLoadRect (View.loadsAt_vmem h_S1024x256))
  let rw0 : Vec F S256x64 .bf16 ← Prog.lift (.load rwM rRw.toLoadRect (View.loadsAt_vmem h_S256x64))
  let i0 : Vec F S1024x1 .i32 ← Prog.lift (.load ixM rI0.toLoadRect (View.loadsAt_vmem h_S1024x1))
  let i1 : Vec F S1024x1 .i32 ← Prog.lift (.load ixM rI1.toLoadRect (View.loadsAt_vmem h_S1024x1))
  let _ : Vec F S1024x64 .f32 ← Prog.lift (.load gM rG.toLoadRect (View.loadsAt_vmem h_S1024x64))
  Prog.lift (.store gM rG (shapeCast S1024x64 (gatePay (expPay (shapeCast S1024x256 x0 shapeCasts_S1024x256_S1024x256) (shapeCast S256x64 rw0 shapeCasts_S256x64_S256x64)) i0 i1) shapeCasts_S1024x64_S1024x64)
    Finset.univ (View.stores_vmem_bits_univ h_S1024x64 rfl) (.inl rfl))
  let _ : Vec F S1024x256 .bf16 ← Prog.lift (.load xbM rX.toLoadRect (View.loadsAt_vmem h_S1024x256))
  Prog.lift (.store xbM rX (shapeCast S1024x256 (shapeCast S1024x256 x0 shapeCasts_S1024x256_S1024x256) shapeCasts_S1024x256_S1024x256)
    Finset.univ (View.stores_vmem h_S1024x256 ((Memref.isWhole_whole cc0_scratch1 : xbM.IsWhole).storeExact_slice rfl _ packedbf16_S1024x256_S1024x256_0_0) (fun _ => rfl)) (.inl rfl))
  let _ : Vec F S1024x512 .f32 ← Prog.lift (.load oM rO.toLoadRect (View.loadsAt_vmem h_S1024x512))
  Prog.lift (.store oM rO (broadcast S1024x512 (Scalar.ofBits .f32 0x00000000#32 : F .f32)) Finset.univ (View.stores_vmem_bits_univ h_S1024x512 rfl) (.inl rfl))

/-- The four gate columns of the experts of device `src`. -/
def gblkPay (src : BitVec 32) (g : FVec F S1024x64 .f32) : FVec F S1024x4 .f32 :=
  matmul dot_S1024x64_S64x4_S1024x4_1_0_0_1_n_n none g
    (sitofp .f32 (extui 32 (cmpi .eq (iota .tc S64x4 32 [0] iota_S64x4_d0_w32)
      (addi (broadcast S64x4 (Scalar.muli src 4#32)) (iota .tc S64x4 32 [1] iota_S64x4_d1_w32))) natLt_1_32))
    (constant S1024x4 .f32 0x00000000#32)

theorem slices_col (k : Fin 4) : S1024x4.Slices ![0, k.val] S1024x1 := by revert k; decide

/-- One expert's product, weighted by its gate column and added. -/
def termPay (k : Fin 4) (gb : FVec F S1024x4 .f32) (xb : FVec F S1024x256 .bf16) (w : FVec F S1x1x256x512 .bf16) (acc : FVec F S1024x512 .f32) : FVec F S1024x512 .f32 :=
  addf acc (mulf (broadcastTo S1024x512 (extractStridedSlice S1024x1 ![0, k.val] gb (slices_col k)) broadcasts_S1024x1_S1024x512)
    (matmul dot_S1024x256_S256x512_S1024x512_1_0_0_1_n_n none xb (shapeCast S256x512 w shapeCasts_S1x1x256x512_S256x512) (constant S1024x512 .f32 0x00000000#32)))

/-- The two loads of one expert's product. -/
def term (s : Fin 16) (k : Fin 4) (gb : FVec F S1024x4 .f32) (acc : FVec F S1024x512 .f32) : Pr F (FVec F S1024x512 .f32) := do
  let xb : Vec F S1024x256 .bf16 ← Prog.lift (.load xbM rX.toLoadRect (View.loadsAt_vmem h_S1024x256))
  let w : Vec F S1x1x256x512 .bf16 ← Prog.lift (.load cM (rS s k).toLoadRect (View.loadsAt_vmem h_S1x1x256x512))
  pure (termPay k gb xb w acc)

/-- The experts of slot `s`, those of device `src`, added into the result. -/
def consume (s : Fin 16) (src : BitVec 32) : Pr F PUnit := do
  let g : Vec F S1024x64 .f32 ← Prog.lift (.load gM rG.toLoadRect (View.loadsAt_vmem h_S1024x64))
  let a : Vec F S1024x512 .f32 ← Prog.lift (.load oM rO.toLoadRect (View.loadsAt_vmem h_S1024x512))
  let a0 ← term s 0 (gblkPay src g) (shapeCast S1024x512 a shapeCasts_S1024x512_S1024x512)
  let a1 ← term s 1 (gblkPay src g) a0
  let a2 ← term s 2 (gblkPay src g) a1
  let a3 ← term s 3 (gblkPay src g) a2
  let _ : Vec F S1024x512 .f32 ← Prog.lift (.load oM rO.toLoadRect (View.loadsAt_vmem h_S1024x512))
  Prog.lift (.store oM rO a3 Finset.univ (View.stores_vmem_bits_univ h_S1024x512 rfl) (.inl rfl))

/-- This device's index along the mesh axis, as a word; -/
def myW (c : Dev nD) : BitVec 32 := Scalar.remsi (Scalar.divsi (Dev.word c) 1#32) 16#32
/-- the index `h` devices to the left, -/
def srcF (c : Dev nD) (h : ℕ) : BitVec 32 := Scalar.remsi (Scalar.addi (Scalar.subi (myW c) (BitVec.ofNat 32 h)) 16#32) 16#32
/-- and `h` to the right. -/
def srcB (c : Dev nD) (h : ℕ) : BitVec 32 := Scalar.remsi (Scalar.addi (myW c) (BitVec.ofNat 32 h)) 16#32

/-- One step of a stage for each chunk. -/
def four (f : Fin 4 → Pr F PUnit) : Pr F PUnit := do
  f 0
  f 1
  f 2
  f 3

/-- Stage `n + 1` of the six in which both streams go on. -/
def stage (c : Dev nD) (n : Fin 6) : Pr F PUnit := do
  four fun k => do wait (.inl (n.castLE (by decide), k)); send c (.inl (n.succ.castLE (by decide), k))
  four fun k => do wait (.inr (n.castLE (by decide), k)); send c (.inr (n.succ, k))
  consume (n.succ.castLE (by decide)) (srcF c (n.val + 1))
  consume (Fin.ofNat 16 (15 - n.val)) (srcB c (n.val + 1))

/-- The seventh: the backward stream ends. -/
def stage7 (c : Dev nD) : Pr F PUnit := do
  four fun k => do wait (.inl (6, k)); send c (.inl (7, k))
  four fun k => wait (.inr (6, k))
  consume 7 (srcF c 7)
  consume 9 (srcB c 7)

/-- The eighth: the forward stream ends. -/
def stage8 (c : Dev nD) : Pr F PUnit := do
  four fun k => wait (.inl (7, k))
  consume 8 (srcF c 8)

/-- The six stages in order. -/
def stages (c : Dev nD) : Pr F PUnit := do
  stage c 0
  stage c 1
  stage c 2
  stage c 3
  stage c 4
  stage c 5

/-- Every forward transfer out, then every backward one. -/
def drains : Pr F PUnit := do
  four fun k => drain (.inl (0, k))
  four fun k => drain (.inl (1, k))
  four fun k => drain (.inl (2, k))
  four fun k => drain (.inl (3, k))
  four fun k => drain (.inl (4, k))
  four fun k => drain (.inl (5, k))
  four fun k => drain (.inl (6, k))
  four fun k => drain (.inl (7, k))
  four fun k => drain (.inr (0, k))
  four fun k => drain (.inr (1, k))
  four fun k => drain (.inr (2, k))
  four fun k => drain (.inr (3, k))
  four fun k => drain (.inr (4, k))
  four fun k => drain (.inr (5, k))
  four fun k => drain (.inr (6, k))

/-- A handshake with both neighbours on the semaphore `s`. -/
def shake (c : Dev nD) (s : Idealize.ShloMosaic.Sem sig) : Pr F PUnit := do
  semSignalWord (⟨k0_dev1 c, k0_dev1_lt c⟩ : Dev nD) s 1#32
  semSignalWord (⟨k0_dev2 c, k0_dev2_lt c⟩ : Dev nD) s 1#32
  semWaitWord s 2#32

/-- The body on device `c`. -/
def bodyOn (c : Dev nD) : Pr F PUnit := do
  shake c barS
  four fill
  four fun k => do send c (.inl (0, k)); send c (.inr (0, k))
  gating
  consume 0 (myW c)
  stages c
  stage7 c
  stage8 c
  drains
  shake c exS

/-- The whole body. -/
def body : Pr F PUnit := do
  let c : Dev nD ← Prog.lift .deviceId
  bodyOn c

/-- The printed body is this program. -/
theorem body_eq : bodyAt0 (F := F) t0_0 = body := by chain_rfl

end Cert.KernelIdeal.Moe

end
-- ==== Proof.ISched.lean ====
/-
The protocol of the kernel: its semaphore cells, what each duty of a cell hands over, what a device owes at launch and
the level of every cell.

Per device: an entry-barrier cell and an exit-barrier cell (two duties of one unit: `true` paid by the device to the
right, `false` by the one to the left), and per transfer a send cell and a receive cell (one duty of the chunk's
credit). An entry signal hands the neighbour the landing slots it writes; a landing hands the receiver its slot
holding the sender's experts; a departure hands the sender back the share of the source it lent.
-/
module

public import proofs.«01_k».proof.Proof.IProg
public import Idealize.ShloMosaic.Lib.Pipeline.Launch
public import Idealize.ShloMosaic.Lib.Pipeline.Kit
public import Idealize.ShloMosaic.Lib.Tactic
public import Idealize.ShloMosaic.Lib.ValueIdx
public import Idealize.ShloMosaic.Lib.ValueLayout

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's ghost state beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def nxt (c : Dev nD) : Dev nD := ⟨k0_dev3 c, k0_dev3_lt c⟩
def prv (c : Dev nD) : Dev nD := ⟨k0_dev4 c, k0_dev4_lt c⟩

theorem nxt_val (c : Dev nD) : (nxt c).val = (c.val + 1) % 16 := k0_dev3_eq c
theorem prv_val (c : Dev nD) : (prv c).val = (c.val + 15) % 16 := k0_dev4_eq c
theorem dev1_eq (c : Dev nD) : (⟨k0_dev1 c, k0_dev1_lt c⟩ : Dev nD) = prv c := rfl
theorem dev2_eq (c : Dev nD) : (⟨k0_dev2 c, k0_dev2_lt c⟩ : Dev nD) = nxt c := rfl

theorem prv_nxt (c : Dev nD) : prv (nxt c) = c := Fin.ext (by
  have h := c.isLt; rw [prv_val, nxt_val]; simp only [nD] at h ⊢; omega)
theorem nxt_prv (c : Dev nD) : nxt (prv c) = c := Fin.ext (by
  have h := c.isLt; rw [nxt_val, prv_val]; simp only [nD] at h ⊢; omega)

/-- One step to the right. -/
def ring : Dev nD ≃ Dev nD := ⟨nxt, prv, prv_nxt, nxt_prv⟩
/-- The device transfer `i` of a device writes to, as a step around the ring. -/
def tring : Tr → (Dev nD ≃ Dev nD)
  | .inl _ => ring
  | .inr _ => ring.symm
theorem tring_apply (i : Tr) (c : Dev nD) : tring i c = tdev c i := by cases i <;> rfl

/-! ## The cells -/

/-- A device's cells: entry barrier, exit barrier, each transfer's departure and arrival. -/
abbrev Cls : Type := Bool ⊕ (Tr ⊕ Tr)

instance : DecidableEq (Dev nD × Cls) := @instDecidableEqProd _ _ inferInstance inferInstance

/-- The semaphore of a cell. -/
def csem : Cls → SemLoc sig
  | .inl true => .reg barS
  | .inl false => .reg exS
  | .inr (.inl i) => .dma (sS i)
  | .inr (.inr i) => .dma (vS i)

abbrev kcell (x : Dev nD × Cls) : GSem nD τ sig := ((x.1 : Thread nD τ), csem x.2)

theorem fs_val : ∀ (h : Fin 8) (k : Fin 4), (fsS h k).sem.val = 5 + 4 * h.val + k.val := by decide +kernel
theorem fr_val : ∀ (h : Fin 8) (k : Fin 4), (frS h k).sem.val = 37 + 4 * h.val + k.val := by decide +kernel
theorem bs_val : ∀ (h : Fin 7) (k : Fin 4), (bsS h k).sem.val = 69 + 4 * h.val + k.val := by decide +kernel
theorem br_val : ∀ (h : Fin 7) (k : Fin 4), (brS h k).sem.val = 97 + 4 * h.val + k.val := by decide +kernel

/-- The number of a cell's semaphore, one numbering for all. -/
def snum : SemLoc sig → ℕ
  | .reg s => s.val
  | .dma s => s.val + 2

/-- The number of each cell. -/
def cnum : Cls → ℕ
  | .inl true => 0
  | .inl false => 1
  | .inr (.inl (.inl x)) => 7 + 4 * x.1.val + x.2.val
  | .inr (.inr (.inl x)) => 39 + 4 * x.1.val + x.2.val
  | .inr (.inl (.inr x)) => 71 + 4 * x.1.val + x.2.val
  | .inr (.inr (.inr x)) => 99 + 4 * x.1.val + x.2.val

theorem snum_csem (x : Cls) : snum (csem x) = cnum x := by
  rcases x with (_ | _) | ((⟨h, k⟩ | ⟨h, k⟩) | (⟨h, k⟩ | ⟨h, k⟩)) <;>
    simp only [csem, sS, vS, snum, cnum, fs_val, fr_val, bs_val, br_val]
  · rfl
  · rfl
  all_goals omega

theorem cnum_injective : Function.Injective cnum := by
  intro x y hn
  rcases x with (_ | _) | ((⟨⟨h₁, _⟩, ⟨k₁, _⟩⟩ | ⟨⟨h₁, _⟩, ⟨k₁, _⟩⟩) | (⟨⟨h₁, _⟩, ⟨k₁, _⟩⟩ | ⟨⟨h₁, _⟩, ⟨k₁, _⟩⟩)) <;>
    rcases y with (_ | _) | ((⟨⟨h₂, _⟩, ⟨k₂, _⟩⟩ | ⟨⟨h₂, _⟩, ⟨k₂, _⟩⟩) | (⟨⟨h₂, _⟩, ⟨k₂, _⟩⟩ | ⟨⟨h₂, _⟩, ⟨k₂, _⟩⟩)) <;>
    simp only [cnum] at hn <;>
    first
    | rfl
    | (exfalso; omega)
    | (obtain rfl : h₁ = h₂ := by omega
       obtain rfl : k₁ = k₂ := by omega
       rfl)

theorem csem_injective : Function.Injective csem := fun x y h =>
  cnum_injective (by rw [← snum_csem, ← snum_csem, h])

theorem kcell_injective : Function.Injective kcell := fun x y h =>
  Prod.ext (congrArg (fun g : GSem nD τ sig => g.1.1) h) (csem_injective (congrArg Prod.snd h))

/-- The cell a semaphore belongs to. -/
def clsOf : SemLoc sig → Option Cls := Function.partialInv csem
theorem clsOf_csem (x : Cls) : clsOf (csem x) = some x := Function.partialInv_left csem_injective x

/-! ## Chunks -/

/-- The chunks of the communication buffer by origin: the device's own experts, and what each transfer lands. -/
abbrev Ch : Type := Fin 4 ⊕ Tr

def slot : Ch → Fin 16
  | .inl _ => 0
  | .inr i => ds i
def chk : Ch → Fin 4
  | .inl k => k
  | .inr i => ck i

/-- The chunk a transfer reads: the device's own at hop 0, what the hop before landed after. -/
def src : Tr → Ch
  | .inl (h, k) => if h.val = 0 then .inl k else .inr (.inl (⟨h.val - 1, by omega⟩, k))
  | .inr (h, k) => if h.val = 0 then .inl k else .inr (.inr (⟨h.val - 1, by omega⟩, k))

def hop : Tr → ℕ
  | .inl x => x.1.val
  | .inr x => x.1.val

theorem slot_src (i : Tr) : slot (src i) = ss i := by revert i; decide +kernel
theorem chk_src (i : Tr) : chk (src i) = ck i := by revert i; decide +kernel

/-- Where a chunk lies: its slot and its place there. -/
def place (x : Ch) : Fin 16 × Fin 4 := (slot x, chk x)
theorem place_injective : Function.Injective place := by decide +kernel
theorem place_surjective : Function.Surjective place := by decide +kernel

/-- The credit of one chunk's transfer. -/
@[irreducible] def N : ℕ := (slotM 0 0).view.dmaCredit
theorem N_pos : 0 < N := by unfold N; exact View.dmaCredit_pos _ (by decide)
theorem amount_eq (s : Fin 16) (k : Fin 4) (q : DmaSem sig) : (slotM s k).view.amount (.dma q) = N := by unfold N; rfl
theorem credit_eq (s : Fin 16) (k : Fin 4) : (slotM s k).view.dmaCredit = N := by unfold N; rfl

/-- The contents of a device's communication buffer. -/
abbrev CBuf (F : FTy → Type) : Type := (cc0_scratch0 : Ref sig .tc).ty.Contents (Elt F)
/-- The experts a device stages. -/
abbrev EBuf (F : FTy → Type) : Type := (cc0_stg3_0 : Ref sig .tc).ty.Contents (Elt F)

/-- The elements of the chunk `s, k`. -/
def cset (s : Fin 16) (k : Fin 4) : Finset S16x4x256x512.Idx := (slotM s k).view.set

/-- The chunk `s, k` of device `c`'s communication buffer, at a share. -/
def chunk (c : Dev nD) (s : Fin 16) (k : Fin 4) (q : PosShare TreeShare) (f : CBuf F) : sProp 𝕄 :=
  (slotM s k).view.loc (c : Thread nD τ) ↦[(slotM s k).view.set]{q} f

omit [FloatOps F] in
theorem chunk_eq (c : Dev nD) (s k q) (f : CBuf F) : (chunk c s k q f : sProp 𝕄) = (cM.view.loc (c : Thread nD τ) ↦[cset s k]{q} f) := rfl

omit [FloatOps F] in
theorem view_storable (m : Memref sig .tc .vmem S256x512 .bf16) (c : Dev nD) (q) (f : Buf (Elt F) (m.view.loc (c : Thread nD τ))) :
    BI.Storable (upEmb : UEmb _ 𝕄) (m.view.loc (c : Thread nD τ) ↦[m.view.set]{q} f : sProp 𝕄) := inferInstance

instance chunk_storable (c : Dev nD) (s k q) (f : CBuf F) : BI.Storable (upEmb : UEmb _ 𝕄) (chunk c s k q f) :=
  view_storable (slotM s k) c q f

/-- Whose experts slot `s` of device `c` is to hold: those of the device `s` to the left. -/
def who (c : Dev nD) (s : Fin 16) : Dev nD := ⟨(c.val + 16 - s.val) % 16, Nat.mod_lt _ (by decide)⟩

theorem who_tdev (c : Dev nD) (i : Tr) : who (tdev c i) (ds i) = who c (ss i) := by
  have hc : c.val < 16 := c.isLt
  apply Fin.ext
  rcases i with ⟨⟨h, hh⟩, k⟩ | ⟨⟨h, hh⟩, k⟩
  · show ((nxt c).val + 16 - (h + 1) % 16) % 16 = (c.val + 16 - h % 16) % 16
    rw [nxt_val]; omega
  · show ((prv c).val + 16 - (15 - h) % 16) % 16 = (c.val + 16 - (16 - h) % 16) % 16
    rw [prv_val]; omega

/-- What device `c`'s communication buffer holds once every chunk has landed: slot `s` the experts of `who c s`. -/
def comm (E : Dev nD → EBuf F) (c : Dev nD) : CBuf F := fun e =>
  E (who c (e (0 : Fin 4))) (ix3 (n0 := 4) (n1 := 256) (n2 := 512) (e (1 : Fin 4)) (e (2 : Fin 4)) (e (3 : Fin 4)))

omit [FloatOps F] in
/-- Read at an index of chunk `s, k`. -/
theorem comm_emb (E : Dev nD → EBuf F) (c : Dev nD) (s : Fin 16) (k : Fin 4) (a : Fin 256) (b : Fin 512) (u v : Fin 1) :
    comm E c ((rS s k).emb (ix4 u v a b)) = E (who c s) (ix3 k a b) := by
  have e0 : (rS s k).emb (ix4 u v a b) (0 : Fin 4) = s := Fin.ext (by
    rw [Rect.emb_apply]; show s.val + 1 * u.val = s.val; omega)
  have e1 : (rS s k).emb (ix4 u v a b) (1 : Fin 4) = k := Fin.ext (by
    rw [Rect.emb_apply]; show k.val + 1 * v.val = k.val; omega)
  have e2 : (rS s k).emb (ix4 u v a b) (2 : Fin 4) = a := Fin.ext (by
    rw [Rect.emb_apply]; show 0 + 1 * a.val = a.val; omega)
  have e3 : (rS s k).emb (ix4 u v a b) (3 : Fin 4) = b := Fin.ext (by
    rw [Rect.emb_apply]; show 0 + 1 * b.val = b.val; omega)
  unfold comm
  rw [e0, e1, e2, e3]

/-- An index of the chunk, as the transfers' view places it. -/
theorem slot_emb (s : Fin 16) (k : Fin 4) (a : Fin 256) (b : Fin 512) :
    (slotM s k).view.emb (ix2 a b) = (rS s k).emb (ix4 (0 : Fin 1) (0 : Fin 1) a b) := by
  show (rS s k).emb (Shape.reshapeEquiv _ (ix2 a b)) = _
  exact congrArg (rS s k).emb (reshapeEquiv_ix2_11ab _ a b)

theorem mem_cset {s : Fin 16} {k : Fin 4} {e : S16x4x256x512.Idx} (h : e ∈ cset s k) :
    ∃ a b, e = (slotM s k).view.emb (ix2 a b) := by
  obtain ⟨y, -, hy⟩ := Finset.mem_map.mp h
  exact ⟨y 0, y 1, by rw [← hy]; exact congrArg _ (eq_ix2 y)⟩

omit [FloatOps F] in
/-- What a transfer lands is what the receiver's slot is to hold. -/
theorem landed_eq (E : Dev nD → EBuf F) (c : Dev nD) (i : Tr) (fd : CBuf F) :
    ∀ e ∈ cset (ds i) (ck i),
      (slotM (ds i) (ck i)).view.write (Elt F) fd ((slotM (ss i) (ck i)).view.read (Elt F) (comm E c)) Finset.univ e
        = comm E (tdev c i) e := by
  intro e he
  obtain ⟨a, b, rfl⟩ := mem_cset he
  refine (View.write_emb_of_mem (Val := Elt F) (v := (slotM (ds i) (ck i)).view) fd _ (Finset.mem_univ (ix2 a b))).trans ?_
  show comm E c ((slotM (ss i) (ck i)).view.emb (ix2 a b)) = _
  rw [slot_emb, comm_emb]
  show _ = comm E (tdev c i) ((slotM (ds i) (ck i)).view.emb (ix2 a b))
  rw [slot_emb, comm_emb, who_tdev]

/-- Different chunks share no element. -/
theorem cset_disjoint {s s' : Fin 16} {k k' : Fin 4} (h : (s, k) ≠ (s', k')) :
    Disjoint (cset s k) (cset s' k') := by
  rw [Finset.disjoint_left]
  intro e he he'
  obtain ⟨a, b, rfl⟩ := mem_cset he
  obtain ⟨a', b', h'⟩ := mem_cset he'
  rw [slot_emb, slot_emb] at h'
  apply h
  have h0 := congrArg Fin.val (congrFun h' (0 : Fin 4))
  have h1 := congrArg Fin.val (congrFun h' (1 : Fin 4))
  rw [Rect.emb_apply, Rect.emb_apply] at h0 h1
  exact Prod.ext (Fin.ext (by simpa using h0)) (Fin.ext (by simpa using h1))

/-- The chunks make up the buffer. -/
theorem cset_cover : (Finset.univ : Finset Ch).biUnion (fun x => cset (slot x) (chk x)) = Finset.univ := by
  ext e
  simp only [Finset.mem_biUnion, Finset.mem_univ, true_and, iff_true]
  obtain ⟨x, hx⟩ := place_surjective ((e (0 : Fin 4) : Fin 16), (e (1 : Fin 4) : Fin 4))
  refine ⟨x, ?_⟩
  have hs : slot x = (e (0 : Fin 4) : Fin 16) := congrArg Prod.fst hx
  have hk : chk x = (e (1 : Fin 4) : Fin 4) := congrArg Prod.snd hx
  have : e = (slotM (slot x) (chk x)).view.emb (ix2 (e (2 : Fin 4) : Fin 256) (e (3 : Fin 4) : Fin 512)) := by
    refine Eq.trans ?_ (slot_emb (slot x) (chk x) (e (2 : Fin 4) : Fin 256) (e (3 : Fin 4) : Fin 512)).symm
    funext a
    match a with
    | ⟨0, _⟩ => exact Fin.ext (by rw [Rect.emb_apply, hs]; rfl)
    | ⟨1, _⟩ => exact Fin.ext (by rw [Rect.emb_apply, hk]; rfl)
    | ⟨2, _⟩ => exact Fin.ext (by rw [Rect.emb_apply]; show _ = 0 + 1 * _; rw [Nat.one_mul, Nat.zero_add]; rfl)
    | ⟨3, _⟩ => exact Fin.ext (by rw [Rect.emb_apply]; show _ = 0 + 1 * _; rw [Nat.one_mul, Nat.zero_add]; rfl)
  rw [this]
  exact View.emb_mem_set _ _

/-! ## The schedule -/

/-- The share of a chunk each stream borrows, and the share the loads keep. -/
def qS : Fin 3 → PosShare TreeShare
  | 0 => fullShare.left
  | 1 => fullShare.right.left
  | 2 => fullShare.right.right
/-- The stream of a transfer. -/
def dir : Tr → Fin 3
  | .inl _ => 0
  | .inr _ => 1

/-- One share of one chunk, holding its experts. -/
def piece (E : Dev nD → EBuf F) (c : Dev nD) (x : Ch × Fin 3) : sProp 𝕄 := chunk c (slot x.1) (chk x.1) (qS x.2) (comm E c)
/-- The slot transfer `i` of device `c` lands in, at any contents. -/
def land (c : Dev nD) (i : Tr) : sProp 𝕄 := iprop(∃ f : CBuf F, chunk (tdev c i) (ds i) (ck i) fullShare f)

variable (E : Dev nD → EBuf F)

/-- What each duty hands over. -/
def pay (c : Dev nD) : Cls → Bool → sProp 𝕄
  | .inl true, true => bigSep Finset.univ fun x : Fin 8 × Fin 4 => land (F := F) c (.inl x)
  | .inl true, false => bigSep Finset.univ fun x : Fin 7 × Fin 4 => land (F := F) c (.inr x)
  | .inl false, _ => iprop(emp)
  | .inr (.inl i), _ => piece E c (src i, dir i)
  | .inr (.inr i), _ => chunk c (ds i) (ck i) fullShare (comm E c)

/-- The units of a duty. -/
def amt : Cls → ℕ
  | .inl _ => 1
  | .inr _ => N
/-- The duties of a cell. -/
def dut : Cls → Finset Bool
  | .inl _ => Finset.univ
  | .inr _ => {false}

instance storable_bigSep {I : Type} [DecidableEq I] (S : Finset I) (Φ : I → sProp 𝕄) [∀ i, BI.Storable (upEmb : UEmb _ 𝕄) (Φ i)] :
    BI.Storable (upEmb : UEmb _ 𝕄) (bigSep S Φ) := by infer_instance

instance pay_storable (c : Dev nD) (x : Cls) (d : Bool) : BI.Storable (upEmb : UEmb _ 𝕄) (pay E c x d) := by
  rcases x with (_ | _) | (i | i) <;> cases d <;> simp only [pay, piece, land] <;> infer_instance

/-- One round per cell. -/
def sched : Rounds.Schedule (GSem nD τ sig) Bool 𝕄 where
  duties g r := match clsOf g.2 with
    | some x => if r = 0 ∧ g.1.2 = .tc then dut x else ∅
    | none => ∅
  unitless _ := False
  amount g _ _ := match clsOf g.2 with
    | some x => amt x
    | none => 1
  payload g _ d := match clsOf g.2 with
    | some x => pay E g.1.1 x d
    | none => iprop(emp)
  amount_pos g _ _ _ := by
    split
    · rename_i x _; rcases x with _ | _
      · exact Nat.one_pos
      · exact N_pos
    · exact Nat.one_pos

instance sched_storable (g : GSem nD τ sig) (r : ℕ) (d : Bool) : BI.Storable (upEmb : UEmb _ 𝕄) ((sched (F := F) E).payload g r d) := by
  dsimp only [sched]
  split <;> infer_instance

omit [FloatOps F] in
theorem duties_k (c : Dev nD) (x : Cls) : (sched (F := F) E).duties (kcell (c, x)) 0 = dut x := by
  dsimp only [sched]; rw [clsOf_csem]; exact if_pos ⟨rfl, rfl⟩
omit [FloatOps F] in
theorem duties_later (g : GSem nD τ sig) : ∀ r, 1 ≤ r → (sched (F := F) E).duties g r = ∅ := fun r hr => by
  dsimp only [sched]
  split
  · exact if_neg fun h => by omega
  · rfl
omit [FloatOps F] in
theorem amount_k (c : Dev nD) (x : Cls) (d : Bool) : (sched (F := F) E).amount (kcell (c, x)) 0 d = amt x := by
  dsimp only [sched]; rw [clsOf_csem]
omit [FloatOps F] in
theorem payload_k (c : Dev nD) (x : Cls) (d : Bool) : (sched (F := F) E).payload (kcell (c, x)) 0 d = pay E c x d := by
  dsimp only [sched]; rw [clsOf_csem]

omit [FloatOps F] in
theorem duty_mem (c : Dev nD) (x : Cls) {d : Bool} (h : d ∈ dut x) : d ∈ (sched (F := F) E).duties (kcell (c, x)) 0 := by
  rw [duties_k]; exact h
omit [FloatOps F] in
/-- The chunk a transfer lends is its departure's payload, -/
theorem pay_send (c : Dev nD) (i : Tr) :
    (chunk c (ss i) (ck i) (qS (dir i)) (comm E c) : sProp 𝕄) ⊢ (sched (F := F) E).payload (kcell (c, .inr (.inl i))) 0 false := by
  rw [payload_k]
  show _ ⊢ chunk c (slot (src i)) (chk (src i)) (qS (dir i)) (comm E c)
  rw [slot_src, chk_src]
omit [FloatOps F] in
/-- and what it lands its arrival's. -/
theorem pay_recv (c : Dev nD) (i : Tr) (fd : CBuf F) :
    ((slotM (ds i) (ck i)).view.loc (tdev c i : Thread nD τ) ↦[(slotM (ds i) (ck i)).view.set]{fullShare}
        (slotM (ds i) (ck i)).view.write (Elt F) fd ((slotM (ss i) (ck i)).view.read (Elt F) (comm E c)) Finset.univ : sProp 𝕄)
      ⊢ (sched (F := F) E).payload (kcell (tdev c i, .inr (.inr i))) 0 false := by
  rw [payload_k]
  exact Entails.of_eq (pointsTo_congr (landed_eq E c i fd))

/-- What a cell's round comes to. -/
def tot : Cls → ℕ
  | .inl _ => 2
  | .inr _ => N

omit [FloatOps F] in
theorem expect_k (c : Dev nD) (x : Cls) : (sched (F := F) E).expect (kcell (c, x)) 0 = tot x := by
  unfold Schedule.expect Schedule.amountOf
  rw [duties_k, Finset.sum_congr rfl fun d _ => amount_k E c x d, Finset.sum_const]
  rcases x with _ | _
  · rfl
  · show Finset.card {false} • N = N
    rw [Finset.card_singleton, one_smul]

omit [FloatOps F] in
/-- A transfer's round hands over its one duty's payload; -/
theorem rest_one (c : Dev nD) (i : Tr ⊕ Tr) :
    bigSep ((sched (F := F) E).duties (kcell (c, .inr i)) 0 \ ∅) (fun d => (sched (F := F) E).payload (kcell (c, .inr i)) 0 d) = pay E c (.inr i) false := by
  rw [Finset.sdiff_empty, duties_k]
  show bigSep {false} _ = _
  rw [bigSep_singleton, payload_k]
omit [FloatOps F] in
/-- a handshake's, both. -/
theorem rest_two (c : Dev nD) (b : Bool) :
    bigSep ((sched (F := F) E).duties (kcell (c, .inl b)) 0 \ ∅) (fun d => (sched (F := F) E).payload (kcell (c, .inl b)) 0 d)
      = iprop(pay E c (.inl b) true ∗ pay E c (.inl b) false) := by
  rw [Finset.sdiff_empty, duties_k]
  show bigSep Finset.univ _ = _
  rw [bigSep_univ_eq_bigSepL [true, false] (by decide) (by decide), bigSepL_cons_cons, bigSepL_singleton, payload_k, payload_k]
  rfl

/-! ## Debts and levels -/

/-- What device `c` owes for one transfer: its landing's credit. -/
def owe1 (c : Dev nD) (i : Tr) : CellTallies nD τ sig Unit := tallyAt (kcell (tdev c i, .inr (.inr i))) () N
/-- What it owes while the transfers outside `S` are to be issued. -/
def oweT (c : Dev nD) (S : Finset Tr) : CellTallies nD τ sig Unit := ∑ i ∈ Sᶜ, owe1 c i
/-- A handshake's debts, the left neighbour's signal first. -/
def oweR (c : Dev nD) (b : Bool) : CellTallies nD τ sig Unit := tallyAt (kcell (nxt c, .inl b)) () 1
def oweX (c : Dev nD) (b : Bool) : CellTallies nD τ sig Unit := oweR c b + tallyAt (kcell (prv c, .inl b)) () 1

/-- All a device owes at launch. -/
def O₀ (c : Dev nD) : CellTallies nD τ sig Unit := oweT c ∅ + oweX c false + oweX c true

def L (g : GSem nD τ sig) : Finset Unit := if g.1.2 = .tc then {()} else ∅
/-- A cell's level: arrivals by hop above the entry barrier, the exit barrier above all, the rest below. -/
def lev : Cls → ℕ
  | .inl true => 1
  | .inl false => 100
  | .inr (.inl _) => 0
  | .inr (.inr i) => 2 + hop i
def lv (g : GSem nD τ sig) (_ : Unit) : ℕ := match clsOf g.2 with
  | some x => lev x
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (x : Cls) (u : Unit) : lv (kcell (c, x)) u = lev x := by unfold lv; rw [clsOf_csem]

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem oweT_pos {c : Dev nD} {S : Finset Tr} {g : GSem nD τ sig} {u : Unit} (h : 0 < oweT c S g u) :
    ∃ i ∉ S, g = kcell (tdev c i, .inr (.inr i)) := by
  unfold oweT at h
  rw [Finset.sum_apply, Finsupp.finset_sum_apply] at h
  obtain ⟨i, hi, hp⟩ := Finset.exists_ne_zero_of_sum_ne_zero (Nat.pos_iff_ne_zero.mp h)
  exact ⟨i, Finset.mem_compl.mp hi, tally_pos (Nat.pos_of_ne_zero hp)⟩

theorem oweX_pos {c : Dev nD} {b : Bool} {g : GSem nD τ sig} {u : Unit} (h : 0 < oweX c b g u) :
    ∃ d, g = kcell (d, .inl b) := by
  unfold oweX oweR at h
  rw [Pi.add_apply, Finsupp.add_apply] at h
  rcases Nat.add_pos_iff_pos_or_pos.mp h with h | h
  · exact ⟨_, tally_pos h⟩
  · exact ⟨_, tally_pos h⟩

omit [FloatOps F] in
/-- A wait of device `c` below every debt of its. -/
theorem mayWait (c : Dev nD) (sm : SemLoc sig) (n : ℕ) (hn : lv ((c : Thread nD τ), sm) () ≤ n) (O : CellTallies nD τ sig Unit)
    (hO : ∀ g u, 0 < O g u → ∃ d x, g = kcell (d, x) ∧ n < lev x) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, x, rfl, -⟩ := hO g u hg; rw [L_tc]; exact Finset.mem_singleton_self _)
    (fun p hp => by rw [Finset.mem_singleton.mp hp]; exact hn)
    (fun g u hg => by obtain ⟨d, x, rfl, h⟩ := hO g u hg; rw [lv_k]; exact h)

theorem oweTX_lev {c : Dev nD} {S : Finset Tr} {n : ℕ} (hn : n < 100) (hS : ∀ i ∉ S, n < 2 + hop i) (g : GSem nD τ sig) (u : Unit)
    (h : 0 < (oweT c S + oweX c false) g u) : ∃ d x, g = kcell (d, x) ∧ n < lev x := by
  rw [Pi.add_apply, Finsupp.add_apply] at h
  rcases Nat.add_pos_iff_pos_or_pos.mp h with h | h
  · obtain ⟨i, hi, rfl⟩ := oweT_pos h
    exact ⟨_, _, rfl, hS i hi⟩
  · obtain ⟨d, rfl⟩ := oweX_pos h
    exact ⟨_, _, rfl, hn⟩

theorem O₀_lev {c : Dev nD} (g : GSem nD τ sig) (u : Unit) (h : 0 < O₀ c g u) : ∃ d x, g = kcell (d, x) ∧ 0 < lev x := by
  unfold O₀ at h
  rw [Pi.add_apply, Finsupp.add_apply] at h
  rcases Nat.add_pos_iff_pos_or_pos.mp h with h | h
  · exact oweTX_lev (by decide) (fun i _ => by omega) g u h
  · obtain ⟨d, rfl⟩ := oweX_pos h
    exact ⟨_, _, rfl, Nat.one_pos⟩

end Cert.KernelIdeal.Moe

end
-- ==== Proof.IStep.lean ====
/-
The transfers of one device, step by step: what the device holds at each moment of the body's order of issues, waits and
drains, and that each of the three steps takes it from one moment to the next.
-/
module

public import proofs.«01_k».proof.Proof.ISched

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The order of the steps -/

/-- The moment a transfer is issued, -/
def sendT : Tr → ℕ
  | .inl x => if x.1.val = 0 then 2 * x.2.val else 16 * x.1.val - 7 + 2 * x.2.val
  | .inr x => if x.1.val = 0 then 2 * x.2.val + 1 else 16 * x.1.val + 1 + 2 * x.2.val
/-- the moment its arrival is waited for, -/
def recvT : Tr → ℕ
  | .inl x => if x.1.val = 7 then 116 + x.2.val else 8 + 16 * x.1.val + 2 * x.2.val
  | .inr x => if x.1.val = 6 then 112 + x.2.val else 16 + 16 * x.1.val + 2 * x.2.val
/-- and its departure. -/
def drainT : Tr → ℕ
  | .inl x => 120 + 4 * x.1.val + x.2.val
  | .inr x => 152 + 4 * x.1.val + x.2.val

theorem sendT_inj : ∀ i j, sendT i = sendT j → i = j := by decide +kernel
theorem recvT_inj : ∀ i j, recvT i = recvT j → i = j := by decide +kernel
theorem drainT_inj : ∀ i j, drainT i = drainT j → i = j := by decide +kernel
theorem send_ne_recv : ∀ i j, sendT i ≠ recvT j := by decide +kernel
theorem send_lt : ∀ i, sendT i < 120 := by decide +kernel
theorem recv_lt : ∀ i, recvT i < 120 := by decide +kernel
theorem drain_ge : ∀ i, 120 ≤ drainT i := by decide +kernel
theorem drain_lt : ∀ i, drainT i < 180 := by decide +kernel
/-- A chunk is passed on after it has landed; -/
theorem src_recv : ∀ i j, src i = .inr j → recvT j < sendT i := by decide +kernel
/-- what is still to be issued at a wait is of a later hop; -/
theorem hop_lt : ∀ i j, recvT i ≤ sendT j → hop i < hop j := by decide +kernel
/-- each stream reads a chunk once. -/
theorem src_inj : ∀ i j, src i = src j → dir i = dir j → i = j := by decide +kernel

/-- The transfers whose moment is before `t`. -/
def bef (f : Tr → ℕ) (t : ℕ) : Finset Tr := Finset.univ.filter fun i => f i < t

theorem mem_bef {f : Tr → ℕ} {t : ℕ} {i : Tr} : i ∈ bef f t ↔ f i < t := by simp [bef]

theorem bef_same {f : Tr → ℕ} {t : ℕ} (h : ∀ i, f i ≠ t) : bef f (t + 1) = bef f t := by
  ext i; rw [mem_bef, mem_bef]; have := h i; omega

theorem bef_step {f : Tr → ℕ} (hf : ∀ i j, f i = f j → i = j) (i : Tr) : bef f (f i + 1) = insert i (bef f (f i)) := by
  ext j; rw [Finset.mem_insert, mem_bef, mem_bef]
  constructor
  · intro h
    rcases Nat.lt_succ_iff_lt_or_eq.mp h with h | h
    · exact Or.inr h
    · exact Or.inl (hf _ _ h)
  · rintro (rfl | h) <;> omega

theorem notMem_bef (f : Tr → ℕ) (i : Tr) : i ∉ bef f (f i) := fun h => Nat.lt_irrefl _ (mem_bef.mp h)

theorem compl_step {f : Tr → ℕ} (hf : ∀ i j, f i = f j → i = j) (i : Tr) : (bef f (f i))ᶜ = insert i (bef f (f i + 1))ᶜ := by
  rw [bef_step hf, Finset.compl_insert, Finset.insert_erase (Finset.mem_compl.mpr (notMem_bef f i))]
theorem notMem_compl (f : Tr → ℕ) (i : Tr) : i ∉ (bef f (f i + 1))ᶜ := fun h =>
  Finset.mem_compl.mp h (mem_bef.mpr (Nat.lt_succ_self _))

/-- The chunks a device has at moment `t`. -/
def avail (t : ℕ) : Ch → Prop
  | .inl _ => True
  | .inr i => recvT i < t
instance (t : ℕ) : DecidablePred (avail t) := fun x => by cases x <;> unfold avail <;> infer_instance

/-- The shares of chunks a device holds at moment `t`: those of the chunks it has, less what its transfers in flight borrow. -/
def held (t : ℕ) : Finset (Ch × Fin 3) :=
  Finset.univ.filter fun x => avail t x.1 ∧ ∀ i, sendT i < t → t ≤ drainT i → (src i, dir i) ≠ x

theorem mem_held {t : ℕ} {x : Ch × Fin 3} : x ∈ held t ↔ avail t x.1 ∧ ∀ i, sendT i < t → t ≤ drainT i → (src i, dir i) ≠ x := by
  simp [held]

theorem avail_mono {t : ℕ} (h : ∀ i, recvT i ≠ t) (x : Ch) : avail (t + 1) x ↔ avail t x := by
  cases x with
  | inl _ => exact Iff.rfl
  | inr i => unfold avail; have := h i; omega

theorem src_avail (i : Tr) {t : ℕ} (h : sendT i ≤ t) : avail t (src i) := by
  rcases hx : src i with k | j
  · trivial
  · exact Nat.lt_of_lt_of_le (src_recv i j hx) h

theorem held_send (i : Tr) : held (sendT i) = insert (src i, dir i) (held (sendT i + 1)) := by
  ext x; rw [Finset.mem_insert, mem_held, mem_held, avail_mono (fun j h => send_ne_recv i j h.symm)]
  constructor
  · intro h
    by_cases hx : x = (src i, dir i)
    · exact Or.inl hx
    · refine Or.inr ⟨h.1, fun j hj hd he => ?_⟩
      rcases Nat.lt_succ_iff_lt_or_eq.mp hj with hj | hj
      · exact h.2 j hj (by omega) he
      · obtain rfl := sendT_inj _ _ hj
        exact hx he.symm
  · rintro (rfl | h)
    · refine ⟨src_avail i (Nat.le_refl _), fun j hj hd he => ?_⟩
      obtain rfl := src_inj _ _ (congrArg Prod.fst he) (congrArg Prod.snd he)
      exact Nat.lt_irrefl _ hj
    · exact ⟨h.1, fun j hj hd => h.2 j (by omega) (by have := drain_ge j; have := send_lt i; omega)⟩

theorem notMem_held_send (i : Tr) : (src i, dir i) ∉ held (sendT i + 1) := fun h =>
  (mem_held.mp h).2 i (Nat.lt_succ_self _) (by have := drain_ge i; have := send_lt i; omega) rfl

theorem held_drain (i : Tr) : held (drainT i + 1) = insert (src i, dir i) (held (drainT i)) := by
  ext x
  rw [Finset.mem_insert, mem_held, mem_held, avail_mono (fun j h => by have := recv_lt j; have := drain_ge i; omega)]
  constructor
  · intro h
    by_cases hx : x = (src i, dir i)
    · exact Or.inl hx
    · refine Or.inr ⟨h.1, fun j hj hd he => ?_⟩
      rcases Nat.lt_or_eq_of_le hd with hd | hd
      · exact h.2 j (by omega) hd he
      · obtain rfl := drainT_inj _ _ hd
        exact hx he.symm
  · rintro (rfl | h)
    · refine ⟨src_avail i (by have := drain_ge i; have := send_lt i; omega), fun j hj hd he => ?_⟩
      obtain rfl := src_inj _ _ (congrArg Prod.fst he) (congrArg Prod.snd he)
      exact Nat.not_succ_le_self _ hd
    · exact ⟨h.1, fun j hj hd => h.2 j (by have := drain_ge i; have := send_lt j; omega) (by omega)⟩

theorem notMem_held_drain (i : Tr) : (src i, dir i) ∉ held (drainT i) := fun h =>
  (mem_held.mp h).2 i (by have := drain_ge i; have := send_lt i; omega) (Nat.le_refl _) rfl

/-- The three shares of a landed chunk. -/
def three (x : Ch) : Finset (Ch × Fin 3) := {(x, 0), (x, 1), (x, 2)}
theorem mem_three {x : Ch} {y : Ch × Fin 3} : y ∈ three x ↔ y.1 = x := by
  obtain ⟨a, d⟩ := y
  simp only [three, Finset.mem_insert, Finset.mem_singleton, Prod.mk.injEq]
  fin_cases d <;> simp

theorem held_recv (i : Tr) : held (recvT i + 1) = three (.inr i) ∪ held (recvT i) := by
  ext x; rw [Finset.mem_union, mem_held, mem_held, mem_three]
  have hlt := recv_lt i
  constructor
  · intro h
    by_cases hx : x.1 = .inr i
    · exact Or.inl hx
    · refine Or.inr ⟨?_, fun j hj hd => h.2 j (by omega) (by have := drain_ge j; omega)⟩
      have h1 := h.1
      rcases x with ⟨k | j, d⟩
      · trivial
      · rcases Nat.lt_succ_iff_lt_or_eq.mp h1 with h1 | h1
        · exact h1
        · exact absurd (congrArg Sum.inr (recvT_inj _ _ h1)) hx
  · rintro (hx | h)
    · refine ⟨by rw [hx]; exact Nat.lt_succ_self _, fun j hj hd he => ?_⟩
      have := src_recv j i (by rw [← hx, ← he])
      omega
    · refine ⟨?_, fun j hj hd => h.2 j ?_ (by omega)⟩
      · have h1 := h.1
        rcases x with ⟨k | j, d⟩
        · trivial
        · exact Nat.lt_succ_of_lt h1
      · have := send_ne_recv j i; omega

theorem disjoint_recv (i : Tr) : Disjoint (three (.inr i)) (held (recvT i)) := by
  rw [Finset.disjoint_left]
  intro x hx h
  have h1 := (mem_held.mp h).1
  rw [mem_three.mp hx] at h1
  exact Nat.lt_irrefl _ h1

/-! ## What a device holds -/

abbrev 𝒱₀ : Variants := Variants.none

/-- A run of a program on device `c` from the body's level. -/
abbrev run {α : Type} (c : Dev nD) (p : Pr F α) (Q : α → sProp 𝕄) : sProp 𝕄 :=
  wp frame (wpE (defs₀ (F := F)) 𝒱₀ (c : Thread nD τ) none) Set.univ p Q

theorem run_seq {α β : Type} {c : Dev nD} {p : Pr F α} {q : α → Pr F β} {A : sProp 𝕄} {B : α → sProp 𝕄} {C : β → sProp 𝕄}
    (hp : A ⊢ run c p B) (hq : ∀ a, B a ⊢ run c (q a) C) : A ⊢ run c (p >>= q) C := by
  unfold run
  rw [wp_bind]
  exact hp.trans (wp_mono _ _ _ hq)

omit [FloatOps F] in
theorem bs_insert {I : Type} [DecidableEq I] {s : Finset I} {i : I} (hi : i ∉ s) {Φ : I → sProp 𝕄} :
    bigSep (insert i s) Φ = iprop(Φ i ∗ bigSep s Φ) := bigSep_insert hi
omit [FloatOps F] in
theorem bs_union {I : Type} [DecidableEq I] {s t : Finset I} (h : Disjoint s t) {Φ : I → sProp 𝕄} :
    bigSep (s ∪ t) Φ = iprop(bigSep s Φ ∗ bigSep t Φ) := bigSep_union h

variable (E : Dev nD → EBuf F) (K : Dev nD × Cls → ℕ)

/-- The invariants of all cells, that each is at its round, and the levels: facts every device has throughout. -/
def env : sProp 𝕄 :=
  iprop(((bigSep Finset.univ fun x : Dev nD × Cls => cellInv ER (sched E) (K x) (kcell x))
    ∗ bigSep Finset.univ fun x : Dev nD × Cls => reached ER (kcell x) 0) ∗ levAts L lv)

instance env_persistent : BI.Persistent (env (F := F) E K) := by unfold env; infer_instance

omit [FloatOps F] in
theorem all_inv (x : Dev nD × Cls) :
    (bigSep Finset.univ fun x : Dev nD × Cls => (cellInv ER (sched E) (K x) (kcell x) : sProp 𝕄)) ⊢ cellInv ER (sched E) (K x) (kcell x) :=
  bigSep_elim (Finset.mem_univ x)
omit [FloatOps F] in
theorem all_reached (x : Dev nD × Cls) :
    (bigSep Finset.univ fun x : Dev nD × Cls => (reached ER (kcell x) 0 : sProp 𝕄)) ⊢ reached ER (kcell x) 0 :=
  bigSep_elim (Finset.mem_univ x)
omit [FloatOps F] in
theorem env_inv (x : Dev nD × Cls) : env E K ⊢ (cellInv ER (sched E) (K x) (kcell x) : sProp 𝕄) := by
  unfold env
  iintro ⟨⟨#HI, -⟩, -⟩
  iapply (all_inv E K x); iexact HI
omit [FloatOps F] in
theorem env_reached (x : Dev nD × Cls) : env E K ⊢ (reached ER (kcell x) 0 : sProp 𝕄) := by
  unfold env
  iintro ⟨⟨-, #HI⟩, -⟩
  iapply (all_reached x); iexact HI
omit [FloatOps F] in
theorem env_lev : env E K ⊢ (levAts L lv : sProp 𝕄) := by
  unfold env
  iintro ⟨-, #H⟩
  iexact H

omit [FloatOps F] in
theorem env_wait (c : Dev nD) (x : Cls) (n : ℕ) (hn : lev x ≤ n) (O : CellTallies nD τ sig Unit)
    (hO : ∀ g u, 0 < O g u → ∃ d x, g = kcell (d, x) ∧ n < lev x) :
    (env E K : sProp 𝕄) ⊢ MayWait (c : Thread nD τ) (csem x) () O := by
  have h := mayWait (F := F) c (csem x) n (le_of_eq_of_le (lv_k c x ()) hn) O hO
  unfold env
  iintro ⟨-, #H⟩
  iapply h
  iexact H

variable (c : Dev nD)

/-- The departure and arrival cells of a transfer. -/
abbrev sc (c : Dev nD) (i : Tr) : GSem nD τ sig := kcell (c, .inr (.inl i))
abbrev rc (c : Dev nD) (i : Tr) : GSem nD τ sig := kcell (c, .inr (.inr i))

/-- What issuing transfer `i` takes: its two duties and the slot it writes. -/
def toSend (i : Tr) : sProp 𝕄 := iprop(dutyTok ER (sc c i) 0 false ∗ dutyTok ER (rc (tdev c i) i) 0 false ∗ land (F := F) c i)
/-- What waiting for it takes. -/
def toRecv (i : Tr) : sProp 𝕄 := iprop(cred (tallyAt (rc c i) () N) ∗ atPos ER (rc c i) 0 ∅ 0)

/-- What device `c` holds at moment `t` besides the facts. -/
def St (t : ℕ) : sProp 𝕄 :=
  iprop((bigSep (bef sendT t)ᶜ (toSend (F := F) c)) ∗ (bigSep (bef recvT t)ᶜ (toRecv (F := F) c))
    ∗ (bigSep (bef recvT t) fun i => semVal (rc c i) 0)
    ∗ (bigSep (bef sendT t \ bef drainT t) fun i => cred (tallyAt (sc c i) () N))
    ∗ (bigSep (bef drainT t)ᶜ fun i => atPos ER (sc c i) 0 ∅ 0)
    ∗ (bigSep (bef drainT t) fun i => semVal (sc c i) 0)
    ∗ (bigSep (held t) (piece E c))
    ∗ ∃ W, owes (c : Thread nD τ) (oweT c (bef sendT t) + oweX c false) W)

omit [FloatOps F] in
theorem oweT_send (i : Tr) : oweT c (bef sendT (sendT i)) + oweX c false = oweT c (bef sendT (sendT i + 1)) + oweX c false + owe1 c i := by
  unfold oweT
  rw [compl_step sendT_inj, Finset.sum_insert (notMem_compl sendT i), add_comm (owe1 c i), add_right_comm]

theorem pending_send (i : Tr) : bef sendT (sendT i + 1) \ bef drainT (sendT i + 1) = insert i (bef sendT (sendT i) \ bef drainT (sendT i)) := by
  have hd : ∀ t, t ≤ 120 → bef drainT t = ∅ := fun t ht => Finset.eq_empty_of_forall_notMem fun j hj => by
    have := mem_bef.mp hj; have := drain_ge j; omega
  have := send_lt i
  rw [hd _ (by omega), hd _ (by omega), Finset.sdiff_empty, Finset.sdiff_empty, bef_step sendT_inj]

theorem pending_drain (i : Tr) : bef sendT (drainT i) \ bef drainT (drainT i) = insert i (bef sendT (drainT i + 1) \ bef drainT (drainT i + 1)) := by
  ext j
  rw [Finset.mem_insert, Finset.mem_sdiff, Finset.mem_sdiff, mem_bef, mem_bef, mem_bef, mem_bef]
  have := drain_ge i; have := send_lt j
  constructor
  · intro h
    by_cases hj : drainT j = drainT i
    · exact Or.inl (drainT_inj _ _ hj)
    · exact Or.inr ⟨by omega, by omega⟩
  · rintro (rfl | h)
    · exact ⟨by omega, by omega⟩
    · exact ⟨by omega, by omega⟩

theorem pending_recv (i : Tr) : bef sendT (recvT i + 1) \ bef drainT (recvT i + 1) = bef sendT (recvT i) \ bef drainT (recvT i) := by
  rw [bef_same (fun j => send_ne_recv j i), bef_same (fun j h => by have := drain_ge j; have := recv_lt i; omega)]

/-- The rule of a transfer between two memrefs, under this protocol. -/
theorem send_core (src dst : Memref sig .tc .vmem S256x512 .bf16) (c c' : Dev nD) (q₁ q₂ : DmaSem sig) (κ₁ κ₂ : ℕ) (q : PosShare TreeShare)
    (hs : src.view.WordExact) (hd : dst.view.WordExact) (hsc : dst.view.ref.isScScratch = false) (hsem)
    (fs : Buf (Elt F) (src.view.loc (c : Thread nD τ))) (fd : Buf (Elt F) (dst.view.loc (c' : Thread nD τ)))
    (O : CellTallies nD τ sig Unit) (W : Waits sig Unit) (Q : PUnit → sProp 𝕄)
    (h : dst.view.amount (.dma q₂ : SemLoc sig) = N)
    (hp₁ : (src.view.loc (c : Thread nD τ) ↦[src.view.set]{q} fs : sProp 𝕄) ⊢ (sched (F := F) E).payload ((c : Thread nD τ), .dma q₁) 0 false)
    (hp₂ : (dst.view.loc (c' : Thread nD τ) ↦[dst.view.set]{fullShare}
        dst.view.write (Elt F) fd (src.view.read (Elt F) fs) Finset.univ : sProp 𝕄) ⊢ (sched (F := F) E).payload ((c' : Thread nD τ), .dma q₂) 0 false)
    (d₁ : false ∈ (sched (F := F) E).duties ((c : Thread nD τ), .dma q₁) 0)
    (d₂ : false ∈ (sched (F := F) E).duties ((c' : Thread nD τ), .dma q₂) 0)
    (a₁ : (sched (F := F) E).amount ((c : Thread nD τ), .dma q₁) 0 false = N)
    (a₂ : (sched (F := F) E).amount ((c' : Thread nD τ), .dma q₂) 0 false = N) :
    iprop(cellInv ER (sched E) κ₁ ((c : Thread nD τ), .dma q₁) ∗ cellInv ER (sched E) κ₂ ((c' : Thread nD τ), .dma q₂)
        ∗ (src.view.loc (c : Thread nD τ) ↦[src.view.set]{q} fs) ∗ (dst.view.loc (c' : Thread nD τ) ↦[dst.view.set]{fullShare} fd)
        ∗ owes (c : Thread nD τ) (O + tallyAt ((c' : Thread nD τ), .dma q₂) () N) W
        ∗ dutyTok ER ((c : Thread nD τ), .dma q₁) 0 false ∗ reached ER ((c : Thread nD τ), .dma q₁) 0
        ∗ dutyTok ER ((c' : Thread nD τ), .dma q₂) 0 false ∗ reached ER ((c' : Thread nD τ), .dma q₂) 0)
      ⊢ iprop(((cred (tallyAt ((c : Thread nD τ), .dma q₁) () N) ∗ owes (c : Thread nD τ) O W) -∗ Q ⟨⟩)
          -∗ run c (Prog.lift (.enqueueDma src (.remote (Dev.tc c') dst (.dma q₁) hsc) (.dma q₂) hs hd hsem)) Q) := by
  have hr : τ.routes (c : Thread nD τ) (c' : Thread nD τ) = true := by routes
  unfold run
  simp only [Prog.lift]
  iintro H Hk
  iapply (Rounds.wp_send_pointsTo 𝒱₀ ER (sched E) (c : Thread nD τ) none (κ₁ := κ₁) (κ₂ := κ₂)
    (r₁ := 0) (r₂ := 0) (d₁ := false) (d₂ := false) (q := q) (fs := fs) (fd := fd) d₁ d₂ () () N h a₁ a₂ O rfl (W := W) hp₁ hp₂ hr) $$ H
  iintro H
  rw [wp_ret]; imodintro
  iapply Hk; iexact H

/-- The same, of transfer `i`. -/
theorem send_rule (i : Tr) (O : CellTallies nD τ sig Unit) (fd : CBuf F) (W : Waits sig Unit) (Q : PUnit → sProp 𝕄) :
    iprop(cellInv ER (sched E) (K (c, .inr (.inl i))) (sc c i) ∗ cellInv ER (sched E) (K (tdev c i, .inr (.inr i))) (rc (tdev c i) i)
        ∗ chunk c (ss i) (ck i) (qS (dir i)) (comm E c) ∗ chunk (tdev c i) (ds i) (ck i) fullShare fd
        ∗ owes (c : Thread nD τ) (O + owe1 c i) W
        ∗ dutyTok ER (sc c i) 0 false ∗ reached ER (sc c i) 0
        ∗ dutyTok ER (rc (tdev c i) i) 0 false ∗ reached ER (rc (tdev c i) i) 0)
      ⊢ iprop(((cred (tallyAt (sc c i) () N) ∗ owes (c : Thread nD τ) O W) -∗ Q ⟨⟩) -∗ run c (send c i) Q) :=
  send_core E (slotM (ss i) (ck i)) (slotM (ds i) (ck i)) c (tdev c i) (sS i) (vS i) _ _ (qS (dir i)) (slot_exact _ _) (slot_exact _ _) rfl
    ⟨⟨rfl, Or.inl rfl⟩, trivial⟩ (comm E c) fd O W Q (amount_eq _ _ _) (pay_send E c i) (pay_recv E c i fd)
    (duty_mem E c (.inr (.inl i)) (Finset.mem_singleton_self _)) (duty_mem E (tdev c i) (.inr (.inr i)) (Finset.mem_singleton_self _))
    (amount_k E c (.inr (.inl i)) false) (amount_k E (tdev c i) (.inr (.inr i)) false)

/-- The rule of a wait for a transfer's one duty, under this protocol, the cell closed after. -/
theorem wait_core (src dst : Memref sig .tc .vmem S256x512 .bf16) (c : Dev nD) (i : Tr ⊕ Tr) (q : DmaSem sig) (hq : csem (.inr i) = .dma q)
    (hs : src.view.WordExact) (hd : dst.view.WordExact) (h : dst.view.dmaCredit = N)
    (O : CellTallies nD τ sig Unit) (W : Waits sig Unit) (Q : PUnit → sProp 𝕄)
    (hw : (env E K : sProp 𝕄) ⊢ MayWait (c : Thread nD τ) (csem (.inr i)) () O) :
    iprop(env E K ∗ cred (tallyAt (kcell (c, .inr i)) () N) ∗ owes (c : Thread nD τ) O W ∗ atPos ER (kcell (c, .inr i)) 0 ∅ 0)
      ⊢ iprop(((∃ W, owes (c : Thread nD τ) O W) ∗ semVal (kcell (c, .inr i)) 0 ∗ pay E c (.inr i) false -∗ Q ⟨⟩)
          -∗ run c (Prog.lift (.waitDma2 q src dst hs hd)) Q) := by
  have hx := expect_k E c (.inr i)
  have hr := rest_one E c i
  have hI := env_inv E K (c, .inr i)
  have hC := Rounds.cell_close (Es := Set.univ) ER (sched E) (Set.mem_univ (K (c, .inr i))) (fun h => h) (R := 0 + 1) (duties_later E (kcell (c, .inr i)))
  unfold kcell at *
  dsimp only at *
  rw [hq] at *
  have hk : 0 + dst.view.dmaCredit = (sched E).expect ((c : Thread nD τ), .dma q) 0 := by rw [Nat.zero_add, h, hx]; rfl
  rw [← h]
  unfold run
  simp only [Prog.lift]
  iintro ⟨#He, Hc, HO, Ha⟩ Hk
  iapply (Rounds.wp_wait_rest_token 𝒱₀ ER (sched E) (c : Thread nD τ) none (κ := K (c, .inr i))
      (wpE_waitDma2_eq 𝒱₀ (c : Thread nD τ) none Set.univ) (Set.mem_univ _) () (O := O) (W := W) (R := 0) (m := 0) (T := ∅) hk) $$ [Hc HO Ha]
  · isplitr; · iapply hI; iexact He
    isplitl [Hc]; · iexact Hc
    isplitl [HO]; · iexact HO
    isplitr; · iapply hw; iexact He
    iexact Ha
  iintro ⟨HO, Ha, -, Hp⟩
  imod hC $$ [Ha] with Hz
  · isplitr; · iapply hI; iexact He
    iexact Ha
  ihave Hp' := (Entails.of_eq hr) $$ Hp
  rw [wp_ret]; imodintro
  iapply Hk
  isplitl [HO]; · iexists _; iexact HO
  isplitl [Hz]; · iexact Hz
  iexact Hp'

/-- Issuing a transfer. -/
theorem send_step (i : Tr) : iprop(env E K ∗ St E c (sendT i)) ⊢ run c (send c i) fun _ => iprop(env E K ∗ St E c (sendT i + 1)) := by
  have hlt := send_lt i
  unfold St
  rw [compl_step sendT_inj i, bs_insert (notMem_compl sendT i), held_send, bs_insert (notMem_held_send i), oweT_send, pending_send,
    bs_insert (by rw [Finset.mem_sdiff]; exact fun h => notMem_bef sendT i h.1),
    bef_same (f := recvT) (fun j h => send_ne_recv i j h.symm), bef_same (f := drainT) (fun j h => by have := drain_ge j; omega)]
  unfold toSend land piece
  rw [slot_src, chk_src]
  iintro ⟨#He, ⟨⟨Ht1, Ht2, ⟨%fd, Hd⟩⟩, Hs⟩, Hr, Hrz, Hc, Ha, Hz, ⟨Hp, Hps⟩, ⟨%W, HO⟩⟩
  iapply (send_rule E K c i (oweT c (bef sendT (sendT i + 1)) + oweX c false) fd W) $$ [Ht1 Ht2 Hd Hp HO]
  · isplitr; · iapply (env_inv E K (c, .inr (.inl i))); iexact He
    isplitr; · iapply (env_inv E K (tdev c i, .inr (.inr i))); iexact He
    isplitl [Hp]; · iexact Hp
    isplitl [Hd]; · iexact Hd
    isplitl [HO]; · iexact HO
    isplitl [Ht1]; · iexact Ht1
    isplitr; · iapply (env_reached E K (c, .inr (.inl i))); iexact He
    isplitl [Ht2]; · iexact Ht2
    iapply (env_reached E K (tdev c i, .inr (.inr i))); iexact He
  iintro ⟨Hc', HO⟩
  isplitr; · iexact He
  isplitl [Hs]; · iexact Hs
  isplitl [Hr]; · iexact Hr
  isplitl [Hrz]; · iexact Hrz
  isplitl [Hc Hc']
  · isplitl [Hc'] <;> iassumption
  isplitl [Ha]; · iexact Ha
  isplitl [Hz]; · iexact Hz
  isplitl [Hps]; · iexact Hps
  iexists W; iexact HO

omit [FloatOps F] in
/-- A chunk outright is its three shares. -/
theorem chunk_three (x : Ch) : (chunk c (slot x) (chk x) fullShare (comm E c) : sProp 𝕄) = bigSep (three x) (piece E c) := by
  have hs (q : PosShare TreeShare) : (chunk c (slot x) (chk x) q (comm E c) : sProp 𝕄)
      = iprop(chunk c (slot x) (chk x) q.left (comm E c) ∗ chunk c (slot x) (chk x) q.right (comm E c)) :=
    BI.Entails.antisymm (pointsTo_share (PosShare.mem_left_op_right q)).1 (pointsTo_share (PosShare.mem_left_op_right q)).2
  rw [hs, hs fullShare.right]
  unfold three
  rw [bs_insert (by simp), bs_insert (by simp), bigSep_singleton]
  rfl

theorem cut_recv (i : Tr) : ∀ j ∉ bef sendT (recvT i), 2 + hop i < 2 + hop j := fun j hj => by
  have := hop_lt i j (Nat.le_of_not_lt fun h => hj (mem_bef.mpr h))
  omega

theorem hop_lt_8 : ∀ i, hop i < 8 := by decide +kernel

/-- Waiting for a transfer's arrival. -/
theorem wait_step (i : Tr) : iprop(env E K ∗ St E c (recvT i)) ⊢ run c (wait i) fun _ => iprop(env E K ∗ St E c (recvT i + 1)) := by
  have hlt := recv_lt i
  have h8 := hop_lt_8 i
  have hR := wait_core E K (slotM (ss i) (ck i)) (slotM (ds i) (ck i)) c (.inr i) (vS i) rfl (slot_exact _ _) (slot_exact _ _) (credit_eq _ _)
    (oweT c (bef sendT (recvT i)) + oweX c false) (hw := env_wait E K c (.inr (.inr i)) (2 + hop i) (Nat.le_refl _) _ (oweTX_lev (by omega) (cut_recv i)))
  unfold St
  rw [compl_step recvT_inj i, bs_insert (notMem_compl recvT i), held_recv, bs_union (disjoint_recv i), ← chunk_three, pending_recv,
    bef_step recvT_inj i, bs_insert (notMem_bef recvT i),
    bef_same (f := sendT) (fun j => send_ne_recv j i), bef_same (f := drainT) (fun j h => by have := drain_ge j; omega)]
  unfold toRecv
  iintro ⟨#He, Hs, ⟨⟨Hcr, Hat⟩, Hr⟩, Hrz, Hc, Ha, Hz, Hps, ⟨%W, HO⟩⟩
  iapply (hR W) $$ [Hcr Hat HO]
  · isplitr; · iexact He
    isplitl [Hcr]; · iexact Hcr
    isplitl [HO]; · iexact HO
    iexact Hat
  iintro ⟨HO, Hv, Hp⟩
  simp only [pay]
  isplitr; · iexact He
  isplitl [Hs]; · iexact Hs
  isplitl [Hr]; · iexact Hr
  isplitl [Hrz Hv]
  · isplitl [Hv] <;> iassumption
  isplitl [Hc]; · iexact Hc
  isplitl [Ha]; · iexact Ha
  isplitl [Hz]; · iexact Hz
  isplitl [Hps Hp]
  · isplitl [Hp]; · iexact Hp
    iexact Hps
  iexact HO

/-- Waiting for a transfer's departure. -/
theorem drain_step (i : Tr) : iprop(env E K ∗ St E c (drainT i)) ⊢ run c (drain i) fun _ => iprop(env E K ∗ St E c (drainT i + 1)) := by
  have hge := drain_ge i
  have hR := wait_core E K (slotM (ds i) (ck i)) (slotM (ss i) (ck i)) c (.inl i) (sS i) rfl (slot_exact _ _) (slot_exact _ _) (credit_eq _ _)
    (oweT c (bef sendT (drainT i)) + oweX c false) (hw := env_wait E K c (.inr (.inl i)) 0 (Nat.le_refl _) _ (oweTX_lev (by omega) (fun j _ => by omega)))
  unfold St
  rw [compl_step drainT_inj i, bs_insert (notMem_compl drainT i), held_drain, bs_insert (notMem_held_drain i), pending_drain,
    bs_insert (by rw [Finset.mem_sdiff, mem_bef, mem_bef]; omega),
    bef_step drainT_inj i, bs_insert (notMem_bef drainT i),
    bef_same (f := sendT) (fun j h => by have := send_lt j; omega), bef_same (f := recvT) (fun j h => by have := recv_lt j; omega)]
  iintro ⟨#He, Hs, Hr, Hrz, ⟨Hcr, Hc⟩, ⟨Hat, Ha⟩, Hz, Hps, ⟨%W, HO⟩⟩
  iapply (hR W) $$ [Hcr Hat HO]
  · isplitr; · iexact He
    isplitl [Hcr]; · iexact Hcr
    isplitl [HO]; · iexact HO
    iexact Hat
  iintro ⟨HO, Hv, Hp⟩
  simp only [pay]
  isplitr; · iexact He
  isplitl [Hs]; · iexact Hs
  isplitl [Hr]; · iexact Hr
  isplitl [Hrz]; · iexact Hrz
  isplitl [Hc]; · iexact Hc
  isplitl [Ha]; · iexact Ha
  isplitl [Hz Hv]
  · isplitl [Hv] <;> iassumption
  isplitl [Hps Hp]
  · isplitl [Hp]; · iexact Hp
    iexact Hps
  iexact HO

end Cert.KernelIdeal.Moe

end
-- ==== Proof.IBody.lean ====
/-
The rest of the body's steps: filling slot 0, the gating stage, the products of one slot, and the two handshakes.
-/
module

public import proofs.«01_k».proof.Proof.IStep

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (E : Dev nD → EBuf F) (K : Dev nD × Cls → ℕ) (c : Dev nD)

/-- A buffer of device `c`, held outright. -/
abbrev own (c : Dev nD) (b : Ref sig .tc) (f : b.ty.Contents (Elt F)) : sProp 𝕄 := ((c : Thread nD τ).loc b) ↦{fullShare} f

theorem hz2 : (![0, 0] : Fin 2 → Nat) = fun _ => 0 := funext fun a => by fin_cases a <;> rfl

omit [FloatOps F] in
theorem read_x (f : xM.view.ref.ty.Contents (Elt F)) : xM.view.readAt (Elt F) rX.toLoadRect f = f :=
  Memref.readAt_unit_zero (Elt F) cc0_stg0_0 hz2 _ f
omit [FloatOps F] in
theorem read_rw (f : rwM.view.ref.ty.Contents (Elt F)) : rwM.view.readAt (Elt F) rRw.toLoadRect f = f :=
  Memref.readAt_unit_zero (Elt F) cc0_stg1_0 hz2 _ f
omit [FloatOps F] in
theorem read_xb (f : xbM.view.ref.ty.Contents (Elt F)) : xbM.view.readAt (Elt F) rX.toLoadRect f = f :=
  Memref.readAt_unit_zero (Elt F) cc0_scratch1 hz2 _ f
omit [FloatOps F] in
theorem read_g (f : gM.view.ref.ty.Contents (Elt F)) : gM.view.readAt (Elt F) rG.toLoadRect f = f :=
  Memref.readAt_unit_zero (Elt F) cc0_scratch2 hz2 _ f
omit [FloatOps F] in
theorem read_o (f : oM.view.ref.ty.Contents (Elt F)) : oM.view.readAt (Elt F) rO.toLoadRect f = f :=
  Memref.readAt_unit_zero (Elt F) cc0_stg4_0 hz2 _ f
omit [FloatOps F] in
theorem write_xb (f w : xbM.view.ref.ty.Contents (Elt F)) : (xbM.access rX).write (Elt F) f w Finset.univ = w :=
  Memref.write_access_unit_zero_univ (Elt F) cc0_scratch1 hz2 _ f w
omit [FloatOps F] in
theorem write_g (f w : gM.view.ref.ty.Contents (Elt F)) : (gM.access rG).write (Elt F) f w Finset.univ = w :=
  Memref.write_access_unit_zero_univ (Elt F) cc0_scratch2 hz2 _ f w
omit [FloatOps F] in
theorem write_o (f w : oM.view.ref.ty.Contents (Elt F)) : (oM.access rO).write (Elt F) f w Finset.univ = w :=
  Memref.write_access_unit_zero_univ (Elt F) cc0_stg4_0 hz2 _ f w

/-! ## The products of one slot -/

/-- A chunk as the loads read it. -/
def wslot (s : Fin 16) (k : Fin 4) (f : CBuf F) : Vec F S1x1x256x512 .bf16 := (cM.access (rS s k)).read (Elt F) f

omit [FloatOps F] in
theorem wslot_apply (s : Fin 16) (k : Fin 4) (f : CBuf F) (z : S1x1x256x512.Idx) : wslot s k f z = f ((rS s k).emb z) := rfl

/-- The result after the experts of slot `s`, those of device `src`. -/
def accPay (s : Fin 16) (src : BitVec 32) (g : FVec F S1024x64 .f32) (xb : FVec F S1024x256 .bf16) (f : CBuf F) (a : FVec F S1024x512 .f32) : FVec F S1024x512 .f32 :=
  termPay 3 (gblkPay src g) xb (wslot s 3 f) (termPay 2 (gblkPay src g) xb (wslot s 2 f) (termPay 1 (gblkPay src g) xb (wslot s 1 f)
    (termPay 0 (gblkPay src g) xb (wslot s 0 f) (shapeCast S1024x512 a shapeCasts_S1024x512_S1024x512))))

theorem access_set (s : Fin 16) (k : Fin 4) : (cM.access (rS s k)).set = cset s k :=
  (View.set_reshape (v := (cM.access (rS s k))) _).symm

/-- The three buffers the products use. -/
def bufs (g : FVec F S1024x64 .f32) (xb : FVec F S1024x256 .bf16) (a : FVec F S1024x512 .f32) : sProp 𝕄 :=
  iprop(own c cc0_scratch2 g ∗ own c cc0_scratch1 xb ∗ own c cc0_stg4_0 a)

/-- The chunk `s, k` is there at moment `t`. -/
def there (t : ℕ) (s : Fin 16) : Prop := ∀ k : Fin 4, ∃ x : Ch, place x = (s, k) ∧ avail t x
instance (t : ℕ) (s : Fin 16) : Decidable (there t s) := by unfold there; infer_instance

/-- A run that returns the one value `v`, and what follows. -/
theorem run_val {α β : Type} {c : Dev nD} {p : Pr F α} {q : α → Pr F β} {A B : sProp 𝕄} {C : β → sProp 𝕄} (v : α)
    (hp : A ⊢ run c p fun r => iprop(⌜r = v⌝ ∗ B)) (hq : B ⊢ run c (q v) C) : A ⊢ run c (p >>= q) C :=
  run_seq hp fun r => by
    iintro ⟨%hr, H⟩
    rw [hr]
    iapply hq; iexact H

/-- One expert's two loads. -/
theorem term_step (t : ℕ) (s : Fin 16) (k : Fin 4) (h : ∃ x : Ch, place x = (s, k) ∧ avail t x) (g xb a) (gb : FVec F S1024x4 .f32)
    (acc : FVec F S1024x512 .f32) :
    iprop(bigSep (held t) (piece E c) ∗ bufs c g xb a) ⊢ run c (term s k gb acc) fun r =>
      iprop(⌜r = termPay k gb xb (wslot s k (comm E c)) acc⌝ ∗ bigSep (held t) (piece E c) ∗ bufs c g xb a) := by
  obtain ⟨x, hx, ha⟩ := h
  obtain rfl : slot x = s := congrArg Prod.fst hx
  obtain rfl : chk x = k := congrArg Prod.snd hx
  have hm : (x, (2 : Fin 3)) ∈ held t := mem_held.mpr ⟨ha, fun i _ _ he => by
    have := congrArg Prod.snd he; revert this; rcases i with _ | _ <;> exact fun h => by cases h⟩
  have e : (bigSep (held t) (piece E c) : sProp 𝕄) = iprop(piece E c (x, 2) ∗ bigSep ((held t).erase (x, 2)) (piece E c)) := bigSep_erase hm
  have e2 : (piece E c (x, 2) : sProp 𝕄) = ((cM.access (rS (slot x) (chk x))).loc (c : Thread nD τ) ↦[cset (slot x) (chk x)]{qS 2} comm E c) := rfl
  rw [e, e2]
  unfold term run bufs
  simp only [Prog.lift, Prog.bind_op, Prog.bind_ret, Prog.pure_eq_ret]
  iintro ⟨⟨Hp, Hr⟩, Hg, Hx, Ho⟩
  iapply (wp_load 𝒱₀ (c : Thread nD τ) none Set.univ (m := xbM) (Finset.subset_univ _)) $$ Hx; iintro Hx
  rw [read_xb]
  iapply (wp_load_rect 𝒱₀ (c : Thread nD τ) none Set.univ (m := cM) (r := rS (slot x) (chk x)) (S := cset (slot x) (chk x))
    (subset_of_eq (access_set (slot x) (chk x)))) $$ Hp; iintro Hp
  rw [wp_ret]; imodintro
  isplitr; · ipureintro; rfl
  isplitl [Hp Hr]
  · isplitl [Hp]; · iexact Hp
    iexact Hr
  isplitl [Hg]; · iexact Hg
  isplitl [Hx]; · iexact Hx
  iexact Ho

/-- The experts of one slot, added into the result. -/
theorem consume_step (t : ℕ) (s : Fin 16) (src : BitVec 32) (h : there t s) (g xb a) :
    iprop(bigSep (held t) (piece E c) ∗ bufs c g xb a) ⊢ run c (consume s src) fun _ =>
      iprop(bigSep (held t) (piece E c) ∗ bufs c g xb (accPay s src g xb (comm E c) a)) := by
  unfold consume
  refine run_val (B := iprop(bigSep (held t) (piece E c) ∗ bufs c g xb a)) g ?_ (run_val (B := iprop(bigSep (held t) (piece E c) ∗ bufs c g xb a)) a ?_ (run_val _ (term_step E c t s 0 (h 0) g xb a _ _) (run_val _ (term_step E c t s 1 (h 1) g xb a _ _)
    (run_val _ (term_step E c t s 2 (h 2) g xb a _ _) (run_val _ (term_step E c t s 3 (h 3) g xb a _ _) ?_)))))
  · unfold run bufs; simp only [Prog.lift]
    iintro ⟨Hh, Hg, Hx, Ho⟩
    iapply (wp_load 𝒱₀ (c : Thread nD τ) none Set.univ (m := gM) (Finset.subset_univ _)) $$ Hg; iintro Hg
    rw [read_g, wp_ret]; imodintro
    isplitr; · ipureintro; rfl
    isplitl [Hh]; · iexact Hh
    isplitl [Hg]; · iexact Hg
    isplitl [Hx]; · iexact Hx
    iexact Ho
  · unfold run bufs; simp only [Prog.lift]
    iintro ⟨Hh, Hg, Hx, Ho⟩
    iapply (wp_load 𝒱₀ (c : Thread nD τ) none Set.univ (m := oM) (Finset.subset_univ _)) $$ Ho; iintro Ho
    rw [read_o, wp_ret]; imodintro
    isplitr; · ipureintro; rfl
    isplitl [Hh]; · iexact Hh
    isplitl [Hg]; · iexact Hg
    isplitl [Hx]; · iexact Hx
    iexact Ho
  · unfold run bufs
    simp only [Prog.lift, Prog.bind_op, Prog.bind_ret]
    iintro ⟨Hh, Hg, Hx, Ho⟩
    iapply (wp_load 𝒱₀ (c : Thread nD τ) none Set.univ (m := oM) (Finset.subset_univ _)) $$ Ho; iintro Ho
    iapply (wp_store 𝒱₀ (c : Thread nD τ) none Set.univ (m := oM) (r := rO) (Finset.subset_univ _)) $$ Ho; iintro Ho
    rw [write_o, wp_ret]; imodintro
    isplitl [Hh]; · iexact Hh
    isplitl [Hg]; · iexact Hg
    isplitl [Hx]; · iexact Hx
    iexact Ho

/-! ## The gating stage -/

/-- The gates of the tokens `x` under the router `rw0` and the assignment `ix`. -/
def gates (x : FVec F S1024x256 .bf16) (rw0 : FVec F S256x64 .bf16) (ix : (cc0_stg2_0 : Ref sig .tc).ty.Contents (Elt F)) : FVec F S1024x64 .f32 :=
  shapeCast S1024x64 (gatePay (expPay (shapeCast S1024x256 x shapeCasts_S1024x256_S1024x256) (shapeCast S256x64 rw0 shapeCasts_S256x64_S256x64))
    ((ixM.access rI0).read (Elt F) ix) ((ixM.access rI1).read (Elt F) ix)) shapeCasts_S1024x64_S1024x64

/-- The tokens as the products read them. -/
def toks (x : FVec F S1024x256 .bf16) : FVec F S1024x256 .bf16 :=
  shapeCast S1024x256 (shapeCast S1024x256 x shapeCasts_S1024x256_S1024x256) shapeCasts_S1024x256_S1024x256

/-- The cleared result. -/
def zeros : FVec F S1024x512 .f32 := broadcast S1024x512 (Scalar.ofBits .f32 0x00000000#32 : F .f32)

/-- The staged arguments of the gating stage. -/
def ins (x : FVec F S1024x256 .bf16) (rw0 : FVec F S256x64 .bf16) (ix : (cc0_stg2_0 : Ref sig .tc).ty.Contents (Elt F)) : sProp 𝕄 :=
  iprop(own c cc0_stg0_0 x ∗ own c cc0_stg1_0 rw0 ∗ own c cc0_stg2_0 ix)

theorem gating_step (x rw0 ix) (g xb a) :
    iprop(ins c x rw0 ix ∗ bufs c g xb a) ⊢ run c gating fun _ => iprop(ins c x rw0 ix ∗ bufs (F := F) c (gates x rw0 ix) (toks x) zeros) := by
  unfold gating run bufs ins
  simp only [Prog.lift, Prog.bind_op, Prog.bind_ret]
  iintro ⟨⟨Hx, Hr, Hi⟩, Hg, Hb, Ho⟩
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hr; iintro Hr
  iapply (wp_load 𝒱₀ (c : Thread nD τ) none Set.univ (m := ixM) (Finset.subset_univ _)) $$ Hi; iintro Hi
  iapply (wp_load 𝒱₀ (c : Thread nD τ) none Set.univ (m := ixM) (Finset.subset_univ _)) $$ Hi; iintro Hi
  iapply (wp_load 𝒱₀ (c : Thread nD τ) none Set.univ (m := gM) (Finset.subset_univ _)) $$ Hg; iintro Hg
  iapply (wp_store 𝒱₀ (c : Thread nD τ) none Set.univ (m := gM) (r := rG) (Finset.subset_univ _)) $$ Hg; iintro Hg
  iapply (wp_load 𝒱₀ (c : Thread nD τ) none Set.univ (m := xbM) (Finset.subset_univ _)) $$ Hb; iintro Hb
  iapply (wp_store 𝒱₀ (c : Thread nD τ) none Set.univ (m := xbM) (r := rX) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := rO) (Finset.subset_univ _)) $$ Ho; iintro Ho
  rw [write_g, write_xb, write_o, read_x, read_rw, wp_ret]; imodintro
  isplitl [Hx Hr Hi]
  · isplitl [Hx]; · iexact Hx
    isplitl [Hr]; · iexact Hr
    iexact Hi
  isplitl [Hg]; · iexact Hg
  isplitl [Hb]; · iexact Hb
  iexact Ho

/-! ## Slot 0 -/

omit [FloatOps F] in
theorem who_zero : who c 0 = c := Fin.ext (by
  have h : c.val < 16 := c.isLt
  show (c.val + 16 - 0) % 16 = c.val
  omega)

/-- What `fill` stores is the device's own expert. -/
theorem fill_eq (k : Fin 4) (f : CBuf F) : ∀ e ∈ cset 0 k,
    (cM.access (rS 0 k)).write (Elt F) f (shapeCast S1x1x256x512 (shapeCast S256x512 (ewM.view.readAt (Elt F) (rW k).toLoadRect (E c)) shapeCasts_S1x256x512_S256x512)
      shapeCasts_S256x512_S1x1x256x512) Finset.univ e = comm E c e := by
  intro e he
  obtain ⟨a, b, rfl⟩ := mem_cset he
  rw [slot_emb, comm_emb, who_zero]
  refine (View.write_emb_of_mem (Val := Elt F) (v := cM.access (rS 0 k)) f _ (Finset.mem_univ (ix4 (0 : Fin 1) (0 : Fin 1) a b))).trans ?_
  refine (cast_eq _ _).trans ?_
  refine (shapeCast_apply _ shapeCasts_S256x512_S1x1x256x512 (ix4 (0 : Fin 1) (0 : Fin 1) a b) (ix2 a b) ?_).trans ?_
  · rw [Shape.rowMajor_val_four, Shape.rowMajor_val_two]
    show a.val * 512 + b.val = ((0 * 1 + 0) * 256 + a.val) * 512 + b.val
    omega
  refine (shapeCast_1ab_ab_apply _ shapeCasts_S1x256x512_S256x512 a b).trans ?_
  show E c ((rW k).emb (ix3 (0 : Fin 1) a b)) = _
  refine congrArg (E c) (funext fun d => ?_)
  match d with
  | ⟨0, _⟩ => exact Fin.ext (by rw [Rect.emb_apply]; show k.val + 1 * 0 = k.val; omega)
  | ⟨1, _⟩ => exact Fin.ext (by rw [Rect.emb_apply]; show 0 + 1 * a.val = a.val; omega)
  | ⟨2, _⟩ => exact Fin.ext (by rw [Rect.emb_apply]; show 0 + 1 * b.val = b.val; omega)

/-- Own expert `k` into slot 0. -/
theorem fill_step (k : Fin 4) :
    iprop(own c cc0_stg3_0 (E c) ∗ ∃ f, chunk c 0 k fullShare f) ⊢ run c (fill k) fun _ => iprop(own c cc0_stg3_0 (E c) ∗ chunk c 0 k fullShare (comm E c)) := by
  have e (f : CBuf F) : (chunk c 0 k fullShare f : sProp 𝕄) = ((cM.access (rS 0 k)).loc (c : Thread nD τ) ↦[cset 0 k]{fullShare} f) := rfl
  simp only [e]
  unfold fill run
  simp only [Prog.lift, Prog.bind_op, Prog.bind_ret]
  iintro ⟨Hw, ⟨%f, Hc⟩⟩
  iapply (wp_load 𝒱₀ (c : Thread nD τ) none Set.univ (m := ewM) (Finset.subset_univ _)) $$ Hw; iintro Hw
  iapply (wp_load_rect 𝒱₀ (c : Thread nD τ) none Set.univ (m := cM) (r := rS 0 k) (S := cset 0 k) (subset_of_eq (access_set 0 k))) $$ Hc; iintro Hc
  iapply (wp_store 𝒱₀ (c : Thread nD τ) none Set.univ (m := cM) (r := rS 0 k) (S := cset 0 k)
    ((View.setOn_subset_set _ _).trans (subset_of_eq (access_set 0 k)))) $$ Hc; iintro Hc
  ihave Hc' := (Entails.of_eq (pointsTo_congr (fill_eq E c k f))) $$ Hc
  rw [wp_ret]; imodintro
  isplitl [Hw]; · iexact Hw
  iexact Hc'

/-! ## The handshakes -/

/-- A handshake on the semaphore of cell `b`: both neighbours' duties paid, both of its own received. -/
theorem shake_core (b : Bool) (s : Idealize.ShloMosaic.Sem sig) (hs : csem (.inl b) = .reg s) (O : CellTallies nD τ sig Unit)
    (hw : (env E K : sProp 𝕄) ⊢ MayWait (c : Thread nD τ) (csem (.inl b)) () O) :
    iprop(env E K ∗ (∃ W, owes (c : Thread nD τ) (O + oweX c b) W)
        ∗ (dutyTok ER (kcell (prv c, .inl b)) 0 true ∗ dutyTok ER (kcell (nxt c, .inl b)) 0 false)
        ∗ (pay E (prv c) (.inl b) true ∗ pay E (nxt c) (.inl b) false)
        ∗ cred (tallyAt (kcell (c, .inl b)) () 2) ∗ atPos ER (kcell (c, .inl b)) 0 ∅ 0)
      ⊢ run c (shake c s) fun _ => iprop(env E K ∗ (∃ W, owes (c : Thread nD τ) O W) ∗ semVal (kcell (c, .inl b)) 0
        ∗ pay E c (.inl b) true ∗ pay E c (.inl b) false) := by
  have hx := expect_k E c (.inl b)
  have hr := rest_two E c b
  have hI := env_inv E K (c, .inl b)
  have hIp := env_inv E K (prv c, .inl b)
  have hIn := env_inv E K (nxt c, .inl b)
  have hRp := env_reached E K (prv c, .inl b)
  have hRn := env_reached E K (nxt c, .inl b)
  have hC := Rounds.cell_close (Es := Set.univ) ER (sched E) (Set.mem_univ (K (c, .inl b))) (fun h => h) (R := 0 + 1) (duties_later E (kcell (c, .inl b)))
  have hpp := payload_k E (prv c) (.inl b) true
  have hpn := payload_k E (nxt c) (.inl b) false
  have hap := amount_k E (prv c) (.inl b) true
  have han := amount_k E (nxt c) (.inl b) false
  have hdp : true ∈ (sched (F := F) E).duties (kcell (prv c, .inl b)) 0 := duty_mem E (prv c) (.inl b) (Finset.mem_univ _)
  have hdn : false ∈ (sched (F := F) E).duties (kcell (nxt c, .inl b)) 0 := duty_mem E (nxt c) (.inl b) (Finset.mem_univ _)
  rw [← hpp, ← hpn]
  unfold oweX oweR
  unfold kcell at *
  dsimp only at *
  rw [hs] at *
  have hk : 0 + 2 = (sched E).expect ((c : Thread nD τ), .reg s) 0 := by rw [hx]; rfl
  rw [← add_assoc]
  unfold run shake
  rw [dev1_eq, dev2_eq]
  simp only [semSignalWord, semWaitWord, Prog.lift, Prog.bind_op, Prog.bind_ret, Prog.pure_eq_ret]
  iintro ⟨#He, ⟨%W, HO⟩, ⟨Htp, Htn⟩, ⟨Hpp, Hpn⟩, Hc, Ha⟩
  iapply (Rounds.wp_signal 𝒱₀ ER (sched E) (c : Thread nD τ) none (dst := (prv c : Thread nD τ)) (κ := K (prv c, .inl b)) (r := 0) (d := true)
      hdp (hap.trans rfl) () (O + tallyAt ((nxt c : Thread nD τ), .reg s) () 1) rfl) $$ [HO Htp Hpp]
  · isplitr; · iapply hIp; iexact He
    isplitl [HO]; · iexact HO
    isplitl [Htp]; · iexact Htp
    isplitl [Hpp]; · iexact Hpp
    iapply hRp; iexact He
  iintro HO
  iapply (Rounds.wp_signal 𝒱₀ ER (sched E) (c : Thread nD τ) none (dst := (nxt c : Thread nD τ)) (κ := K (nxt c, .inl b)) (r := 0) (d := false)
      hdn (han.trans rfl) () O rfl) $$ [HO Htn Hpn]
  · isplitr; · iapply hIn; iexact He
    isplitl [HO]; · iexact HO
    isplitl [Htn]; · iexact Htn
    isplitl [Hpn]; · iexact Hpn
    iapply hRn; iexact He
  iintro HO
  iapply (Rounds.wp_wait_rest_token 𝒱₀ ER (sched E) (c : Thread nD τ) none (κ := K (c, .inl b))
      (wpE_semWait_eq 𝒱₀ (c : Thread nD τ) none Set.univ) (Set.mem_univ _) () (O := O) (W := W) (R := 0) (m := 0) (T := ∅) hk) $$ [Hc HO Ha]
  · isplitr; · iapply hI; iexact He
    isplitl [Hc]; · iexact Hc
    isplitl [HO]; · iexact HO
    isplitr; · iapply hw; iexact He
    iexact Ha
  iintro ⟨HO, Ha, -, Hp⟩
  imod hC $$ [Ha] with Hz
  · isplitr; · iapply hI; iexact He
    iexact Ha
  ihave Hp' := (Entails.of_eq hr) $$ Hp
  rw [wp_ret]; imodintro
  isplitr; · iexact He
  isplitl [HO]; · iexists _; iexact HO
  isplitl [Hz]; · iexact Hz
  iexact Hp'

end Cert.KernelIdeal.Moe

end
-- ==== Proof.IWhole.lean ====
/-
The whole body on one device: from what the launch deals it, its staged arguments and its communication buffer, to the
result computed, the buffer full and every counter at zero.
-/
module

public import proofs.«01_k».proof.Proof.IBody

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (E : Dev nD → EBuf F) (K : Dev nD × Cls → ℕ) (c : Dev nD)

/-! ## Moments with what is kept beside -/

/-- The state at moment `t` with `R` beside. -/
abbrev At (t : ℕ) (R : sProp 𝕄) : sProp 𝕄 := iprop((env E K ∗ St E c t) ∗ R)

theorem run_frame {α : Type} {c : Dev nD} {p : Pr F α} {A R : sProp 𝕄} {B : α → sProp 𝕄} (h : A ⊢ run c p B) :
    iprop(A ∗ R) ⊢ run c p fun a => iprop(B a ∗ R) := (sep_mono_left h).trans (wp_frame_r _ _ _)

theorem at_send (i : Tr) {t t' : ℕ} (h : sendT i = t) (h' : t + 1 = t') (R : sProp 𝕄) :
    At E K c t R ⊢ run c (send c i) fun _ => At E K c t' R := by
  subst h h'; exact run_frame (send_step E K c i)
theorem at_wait (i : Tr) {t t' : ℕ} (h : recvT i = t) (h' : t + 1 = t') (R : sProp 𝕄) :
    At E K c t R ⊢ run c (wait i) fun _ => At E K c t' R := by
  subst h h'; exact run_frame (wait_step E K c i)
theorem at_drain (i : Tr) {t t' : ℕ} (h : drainT i = t) (h' : t + 1 = t') (R : sProp 𝕄) :
    At E K c t R ⊢ run c (drain i) fun _ => At E K c t' R := by
  subst h h'; exact run_frame (drain_step E K c i)

/-- One step for each chunk, the moments running along. -/
theorem at_four {f : Fin 4 → Pr F PUnit} {A : ℕ → sProp 𝕄} (h : ∀ k : Fin 4, A k.val ⊢ run c (f k) fun _ => A (k.val + 1)) :
    A 0 ⊢ run c (four f) fun _ => A 4 :=
  run_seq (h 0) fun _ => run_seq (h 1) fun _ => run_seq (h 2) fun _ => h 3

variable (g : FVec F S1024x64 .f32) (xb : FVec F S1024x256 .bf16)

theorem at_consume {t : ℕ} (s : Fin 16) (src : BitVec 32) (h : there t s) (a : FVec F S1024x512 .f32) (R : sProp 𝕄) :
    At E K c t iprop(bufs c g xb a ∗ R) ⊢ run c (consume s src) fun _ => At E K c t iprop(bufs c g xb (accPay s src g xb (comm E c) a) ∗ R) := by
  have hc := run_frame (R := iprop(env E K ∗ ((bigSep (bef sendT t)ᶜ (toSend (F := F) c)) ∗ (bigSep (bef recvT t)ᶜ (toRecv (F := F) c))
    ∗ (bigSep (bef recvT t) fun i => semVal (rc c i) 0)
    ∗ (bigSep (bef sendT t \ bef drainT t) fun i => cred (tallyAt (sc c i) () N))
    ∗ (bigSep (bef drainT t)ᶜ fun i => atPos ER (sc c i) 0 ∅ 0)
    ∗ (bigSep (bef drainT t) fun i => semVal (sc c i) 0) ∗ ∃ W, owes (c : Thread nD τ) (oweT c (bef sendT t) + oweX c false) W) ∗ R)) (consume_step E c t s src h g xb a)
  unfold At St
  refine BIBase.Entails.trans ?_ (hc.trans (wp_mono _ _ _ fun _ => ?_))
  · iintro ⟨⟨He, H1, H2, H3, H4, H5, H6, H7, H8⟩, Hb, HR⟩
    isplitl [H7 Hb]
    · isplitl [H7] <;> iassumption
    isplitl [He]; · iexact He
    isplitr [HR]
    · isplitl [H1]; · iexact H1
      isplitl [H2]; · iexact H2
      isplitl [H3]; · iexact H3
      isplitl [H4]; · iexact H4
      isplitl [H5]; · iexact H5
      isplitl [H6] <;> iassumption
    iexact HR
  · iintro ⟨⟨H7, Hb⟩, He, ⟨H1, H2, H3, H4, H5, H6, H8⟩, HR⟩
    isplitr [Hb HR]
    · isplitl [He]; · iexact He
      isplitl [H1]; · iexact H1
      isplitl [H2]; · iexact H2
      isplitl [H3]; · iexact H3
      isplitl [H4]; · iexact H4
      isplitl [H5]; · iexact H5
      isplitl [H6]; · iexact H6
      isplitl [H7] <;> iassumption
    isplitl [Hb] <;> iassumption

/-! ## The stages -/

/-- The result after the two slots of stage `n + 1`; -/
def accTwo (n : ℕ) (a : FVec F S1024x512 .f32) : FVec F S1024x512 .f32 :=
  accPay (Fin.ofNat 16 (15 - n)) (srcB c (n + 1)) g xb (comm E c) (accPay (Fin.ofNat 16 (n + 1)) (srcF c (n + 1)) g xb (comm E c) a)
/-- after slot 0 and `n` stages; -/
def acc : ℕ → FVec F S1024x512 .f32
  | 0 => accPay 0 (myW c) g xb (comm E c) zeros
  | n + 1 => accTwo E c g xb n (acc n)
/-- and after all. -/
def result : FVec F S1024x512 .f32 := accPay 8 (srcF c 8) g xb (comm E c) (acc E c g xb 7)

theorem m_wl : ∀ (n : Fin 6) (k : Fin 4), recvT (.inl (n.castLE (by decide), k)) = 8 + 16 * n.val + 2 * k.val := by decide +kernel
theorem m_sl : ∀ (n : Fin 6) (k : Fin 4), sendT (.inl (n.succ.castLE (by decide), k)) = 8 + 16 * n.val + 2 * k.val + 1 := by decide +kernel
theorem m_wr : ∀ (n : Fin 6) (k : Fin 4), recvT (.inr (n.castLE (by decide), k)) = 16 + 16 * n.val + 2 * k.val := by decide +kernel
theorem m_sr : ∀ (n : Fin 6) (k : Fin 4), sendT (.inr (n.succ, k)) = 16 + 16 * n.val + 2 * k.val + 1 := by decide +kernel
theorem th_l : ∀ n : Fin 6, there (24 + 16 * n.val) (Fin.ofNat 16 (n.val + 1)) := by decide +kernel
theorem th_r : ∀ n : Fin 6, there (24 + 16 * n.val) (Fin.ofNat 16 (15 - n.val)) := by decide +kernel
theorem slot_l : ∀ n : Fin 6, (n.succ.castLE (by decide) : Fin 16) = Fin.ofNat 16 (n.val + 1) := by decide

theorem stage_step (n : Fin 6) (a : FVec F S1024x512 .f32) (R : sProp 𝕄) :
    At E K c (8 + 16 * n.val) iprop(bufs c g xb a ∗ R) ⊢ run c (stage c n) fun _ =>
      At E K c (24 + 16 * n.val) iprop(bufs c g xb (accTwo E c g xb n.val a) ∗ R) := by
  unfold stage
  refine run_seq (B := fun _ => At E K c (16 + 16 * n.val) iprop(bufs c g xb a ∗ R)) ?_ fun _ =>
    run_seq (B := fun _ => At E K c (24 + 16 * n.val) iprop(bufs c g xb a ∗ R)) ?_ fun _ => ?_
  · have h := at_four c (f := fun k => do wait (.inl (n.castLE (by decide), k)); send c (.inl (n.succ.castLE (by decide), k)))
      (A := fun k => At E K c (8 + 16 * n.val + 2 * k) iprop(bufs c g xb a ∗ R))
      fun k => run_seq (at_wait E K c _ (m_wl n k) rfl _) fun _ => at_send E K c _ (m_sl n k) (by omega) _
    rw [show 8 + 16 * n.val + 2 * 4 = 16 + 16 * n.val by omega] at h
    exact h
  · have h := at_four c (f := fun k => do wait (.inr (n.castLE (by decide), k)); send c (.inr (n.succ, k)))
      (A := fun k => At E K c (16 + 16 * n.val + 2 * k) iprop(bufs c g xb a ∗ R))
      fun k => run_seq (at_wait E K c _ (m_wr n k) rfl _) fun _ => at_send E K c _ (m_sr n k) (by omega) _
    rw [show 16 + 16 * n.val + 2 * 4 = 24 + 16 * n.val by omega] at h
    exact h
  · rw [slot_l]
    exact run_seq (at_consume E K c g xb _ _ (th_l n) a R) fun _ => at_consume E K c g xb _ _ (th_r n) _ R

theorem stages_step (R : sProp 𝕄) :
    At E K c 8 iprop(bufs c g xb (acc E c g xb 0) ∗ R) ⊢ run c (stages c) fun _ => At E K c 104 iprop(bufs c g xb (acc E c g xb 6) ∗ R) :=
  run_seq (stage_step E K c g xb 0 _ R) fun _ => run_seq (stage_step E K c g xb 1 _ R) fun _ => run_seq (stage_step E K c g xb 2 _ R) fun _ =>
    run_seq (stage_step E K c g xb 3 _ R) fun _ => run_seq (stage_step E K c g xb 4 _ R) fun _ => stage_step E K c g xb 5 _ R

theorem m7 : ∀ k : Fin 4, recvT (.inl (6, k)) = 104 + 2 * k.val ∧ sendT (.inl (7, k)) = 104 + 2 * k.val + 1 ∧ recvT (.inr (6, k)) = 112 + k.val
    ∧ recvT (.inl (7, k)) = 116 + k.val := by decide +kernel

theorem stage7_step (a : FVec F S1024x512 .f32) (R : sProp 𝕄) :
    At E K c 104 iprop(bufs c g xb a ∗ R) ⊢ run c (stage7 c) fun _ => At E K c 116 iprop(bufs c g xb (accTwo E c g xb 6 a) ∗ R) :=
  run_seq (at_four c (A := fun k => At E K c (104 + 2 * k) iprop(bufs c g xb a ∗ R))
      fun k => run_seq (at_wait E K c _ (m7 k).1 rfl _) fun _ => at_send E K c _ (m7 k).2.1 (by omega) _) fun _ =>
  run_seq (at_four c (A := fun k => At E K c (112 + k) iprop(bufs c g xb a ∗ R)) fun k => at_wait E K c _ (m7 k).2.2.1 (by omega) _) fun _ =>
  run_seq (at_consume E K c g xb 7 (srcF c 7) (by decide +kernel) a R) fun _ => at_consume E K c g xb 9 (srcB c 7) (by decide +kernel) _ R

theorem stage8_step (a : FVec F S1024x512 .f32) (R : sProp 𝕄) :
    At E K c 116 iprop(bufs c g xb a ∗ R) ⊢ run c (stage8 c) fun _ => At E K c 120 iprop(bufs c g xb (accPay 8 (srcF c 8) g xb (comm E c) a) ∗ R) :=
  run_seq (at_four c (A := fun k => At E K c (116 + k) iprop(bufs c g xb a ∗ R)) fun k => at_wait E K c _ (m7 k).2.2.2 (by omega) _) fun _ =>
  at_consume E K c g xb 8 (srcF c 8) (by decide +kernel) a R

theorem drain4 (i : Fin 4 → Tr) (t : ℕ) (h : ∀ k, drainT (i k) = t + k.val) (R : sProp 𝕄) :
    At E K c t R ⊢ run c (four fun k => drain (i k)) fun _ => At E K c (t + 4) R :=
  at_four c (A := fun k => At E K c (t + k) R) fun k => at_drain E K c _ (h k) (by omega) _

theorem drains_step (R : sProp 𝕄) : At E K c 120 R ⊢ run c drains fun _ => At E K c 180 R := by
  have l (h : Fin 8) := drain4 E K c (fun k => .inl (h, k)) (120 + 4 * h.val) (fun _ => rfl) R
  have r (h : Fin 7) := drain4 E K c (fun k => .inr (h, k)) (152 + 4 * h.val) (fun _ => rfl) R
  exact run_seq (l 0) fun _ => run_seq (l 1) fun _ => run_seq (l 2) fun _ => run_seq (l 3) fun _ => run_seq (l 4) fun _ => run_seq (l 5) fun _ =>
    run_seq (l 6) fun _ => run_seq (l 7) fun _ => run_seq (r 0) fun _ => run_seq (r 1) fun _ => run_seq (r 2) fun _ => run_seq (r 3) fun _ =>
    run_seq (r 4) fun _ => run_seq (r 5) fun _ => r 6

theorem m0 : ∀ k : Fin 4, sendT (.inl (0, k)) = 2 * k.val ∧ sendT (.inr (0, k)) = 2 * k.val + 1 := by decide +kernel

theorem hop0_step (R : sProp 𝕄) :
    At E K c 0 R ⊢ run c (four fun k => do send c (.inl (0, k)); send c (.inr (0, k))) fun _ => At E K c 8 R :=
  at_four c (A := fun k => At E K c (2 * k) R) fun k => run_seq (at_send E K c _ (m0 k).1 rfl _) fun _ => at_send E K c _ (m0 k).2 (by omega) _

end Cert.KernelIdeal.Moe

end
-- ==== Proof.IEnds.lean ====
/-
The two ends of the body: what the launch deals a device becomes the state at the first moment, the state at the last
moment gives back the buffer and the counters; and the whole body between them.
-/
module

public import proofs.«01_k».proof.Proof.IWhole

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (E : Dev nD → EBuf F) (K : Dev nD × Cls → ℕ) (c : Dev nD)

/-! ## The communication buffer and its chunks -/

omit [FloatOps F] in
theorem own_chunks (f : CBuf F) : (own c cc0_scratch0 f : sProp 𝕄) = bigSep Finset.univ fun x : Ch => chunk c (slot x) (chk x) fullShare f := by
  have h := pointsTo_biUnion (Val := Elt F) (q := fullShare) (f := f) (ℓ := (c : Thread nD τ).loc cc0_scratch0) (Ix := Unit) (Name := ℕ) (U := UU) (Lvl := ℕ)
    (Finset.univ : Finset Ch) (fun x => cset (slot x) (chk x)) fun x _ y _ hxy => cset_disjoint fun he => hxy (place_injective he)
  rw [cset_cover] at h
  exact h

omit [FloatOps F] in
theorem bs_mono {I : Type} {S : Finset I} {Φ Ψ : I → sProp 𝕄} (h : ∀ i, Φ i ⊢ Ψ i) : bigSep S Φ ⊢ bigSep S Ψ := bigSep_mono fun i _ => h i
omit [FloatOps F] in
theorem ch_eq (Φ : Ch → sProp 𝕄) : bigSep Finset.univ Φ = iprop((bigSep Finset.univ fun k : Fin 4 => Φ (.inl k))
    ∗ (bigSep Finset.univ fun x : Fin 8 × Fin 4 => Φ (.inr (.inl x))) ∗ bigSep Finset.univ fun x : Fin 7 × Fin 4 => Φ (.inr (.inr x))) := by
  rw [bigSep_univ_sum, bigSep_univ_sum]; rfl
omit [FloatOps F] in
/-- Its own slot, and the landing slots its neighbours write. -/
theorem split_buf : iprop(∃ f : CBuf F, own c cc0_scratch0 f) ⊢ iprop((bigSep Finset.univ fun k : Fin 4 => iprop(∃ f : CBuf F, chunk c 0 k fullShare f))
    ∗ pay E (prv c) (.inl true) true ∗ pay E (nxt c) (.inl true) false) := by
  have hl (f : CBuf F) (x : Fin 8 × Fin 4) : (chunk c (slot (.inr (.inl x))) (chk (.inr (.inl x))) fullShare f : sProp 𝕄) ⊢ land (prv c) (.inl x) := by
    unfold land
    rw [show tdev (prv c) (.inl x) = c from nxt_prv c]
    iintro H; iexists f; iexact H
  have hr (f : CBuf F) (x : Fin 7 × Fin 4) : (chunk c (slot (.inr (.inr x))) (chk (.inr (.inr x))) fullShare f : sProp 𝕄) ⊢ land (nxt c) (.inr x) := by
    unfold land
    rw [show tdev (nxt c) (.inr x) = c from prv_nxt c]
    iintro H; iexists f; iexact H
  have h0 (f : CBuf F) (k : Fin 4) : (chunk c (slot (.inl k)) (chk (.inl k)) fullShare f : sProp 𝕄) ⊢ iprop(∃ f : CBuf F, chunk c 0 k fullShare f) := by
    iintro H; iexists f; iexact H
  iintro ⟨%f, H⟩
  ihave H := (Entails.of_eq ((own_chunks c f).trans (ch_eq _))) $$ H
  icases H with ⟨H0, Hl, Hr⟩
  simp only [pay]
  isplitl [H0]; · iapply (bs_mono (h0 f)); iexact H0
  isplitl [Hl]; · iapply (bs_mono (hl f)); iexact Hl
  iapply (bs_mono (hr f)); iexact Hr

omit [FloatOps F] in
theorem pieces_eq (S : Finset Ch) : (bigSep (S.biUnion three) (piece E c) : sProp 𝕄) = bigSep S fun x => chunk c (slot x) (chk x) fullShare (comm E c) := by
  rw [bigSep_biUnion_eq S three (piece E c) fun x _ y _ hxy => Finset.disjoint_left.mpr fun z hx hy => hxy ((mem_three.mp hx).symm.trans (mem_three.mp hy))]
  exact bigSep_congr fun x _ => (chunk_three E c x).symm

theorem held_zero : held 0 = ((Finset.univ : Finset (Fin 4)).map ⟨Sum.inl, Sum.inl_injective⟩).biUnion three := by
  ext ⟨x, d⟩
  rw [mem_held, Finset.mem_biUnion]
  constructor
  · rintro ⟨h, -⟩
    rcases x with k | i
    · exact ⟨.inl k, Finset.mem_map.mpr ⟨k, Finset.mem_univ _, rfl⟩, mem_three.mpr rfl⟩
    · exact absurd h (Nat.not_lt_zero _)
  · rintro ⟨y, hy, hx⟩
    obtain ⟨k, -, rfl⟩ := Finset.mem_map.mp hy
    obtain rfl : x = .inl k := mem_three.mp hx
    exact ⟨trivial, fun i hi => absurd hi (Nat.not_lt_zero _)⟩

theorem held_last : held 180 = (Finset.univ : Finset Ch).biUnion three := by
  ext ⟨x, d⟩
  rw [mem_held, Finset.mem_biUnion]
  refine ⟨fun _ => ⟨x, Finset.mem_univ _, mem_three.mpr rfl⟩, fun _ => ⟨?_, fun i _ hd => absurd (drain_lt i) (Nat.not_lt.mpr hd)⟩⟩
  rcases x with k | i
  · trivial
  · exact Nat.lt_trans (recv_lt i) (by decide)

theorem bef_zero (f : Tr → ℕ) : bef f 0 = ∅ := Finset.eq_empty_of_forall_notMem fun i h => Nat.not_lt_zero _ (mem_bef.mp h)
theorem bef_last (f : Tr → ℕ) (h : ∀ i, f i < 180) : bef f 180 = Finset.univ := Finset.eq_univ_of_forall fun i => mem_bef.mpr (h i)

/-! ## What the launch deals a device -/

/-- The duties a device pays in a handshake. -/
def shakeTok (b : Bool) : sProp 𝕄 := iprop(dutyTok ER (kcell (prv c, .inl b)) 0 true ∗ dutyTok ER (kcell (nxt c, .inl b)) 0 false)
/-- The duties it pays. -/
def payTok : sProp 𝕄 :=
  iprop(shakeTok (F := F) c true ∗ shakeTok (F := F) c false ∗ (bigSep Finset.univ fun i : Tr => dutyTok ER (sc c i) 0 false)
    ∗ bigSep Finset.univ fun i : Tr => dutyTok ER (rc (tdev c i) i) 0 false)
/-- The credit of its waits that its neighbours owe. -/
def dealt : sProp 𝕄 :=
  iprop(cred (tallyAt (kcell (c, .inl true)) () 2) ∗ cred (tallyAt (kcell (c, .inl false)) () 2) ∗ bigSep Finset.univ fun i : Tr => cred (tallyAt (rc c i) () N))
/-- Its place at every cell of its own. -/
def places : sProp 𝕄 := bigSep Finset.univ fun x : Cls => atPos ER (kcell (c, x)) 0 ∅ 0

omit [FloatOps F] in
theorem cls_eq (Φ : Cls → sProp 𝕄) : bigSep Finset.univ Φ = iprop((Φ (.inl true) ∗ Φ (.inl false))
    ∗ (bigSep Finset.univ fun i : Tr => Φ (.inr (.inl i))) ∗ bigSep Finset.univ fun i : Tr => Φ (.inr (.inr i))) := by
  rw [bigSep_univ_sum, bigSep_univ_sum, bigSep_univ_eq_bigSepL [true, false] (by decide) (by decide), bigSepL_cons_cons, bigSepL_singleton]
  rfl

theorem st_zero : iprop(((bigSep Finset.univ fun i : Tr => dutyTok ER (sc c i) 0 false) ∗ bigSep Finset.univ fun i : Tr => dutyTok ER (rc (tdev c i) i) 0 false)
      ∗ (bigSep Finset.univ fun i : Tr => land c i)
      ∗ (bigSep Finset.univ fun i : Tr => cred (tallyAt (rc c i) () N))
      ∗ ((bigSep Finset.univ fun i : Tr => atPos ER (sc c i) 0 ∅ 0) ∗ bigSep Finset.univ fun i : Tr => atPos ER (rc c i) 0 ∅ 0)
      ∗ (bigSep Finset.univ fun k : Fin 4 => chunk c 0 k fullShare (comm E c))
      ∗ ∃ W, owes (c : Thread nD τ) (oweT c ∅ + oweX c false) W) ⊢ St E c 0 := by
  unfold St toSend toRecv
  rw [bef_zero, bef_zero, bef_zero, Finset.compl_empty, Finset.sdiff_empty, held_zero, pieces_eq, bigSep_map, bigSep_sep', bigSep_sep', bigSep_sep',
    bigSep_empty, bigSep_empty, bigSep_empty]
  iintro ⟨⟨Hs, Hr⟩, Hl, Hc, ⟨Has, Har⟩, Hk, HO⟩
  isplitl [Hs Hr Hl]
  · isplitl [Hs]; · iexact Hs
    isplitl [Hr] <;> iassumption
  isplitl [Hc Har]
  · isplitl [Hc] <;> iassumption
  isplitr; · iempintro
  isplitr; · iempintro
  isplitl [Has]; · iexact Has
  isplitr; · iempintro
  isplitl [Hk]; · iexact Hk
  iexact HO

theorem st_last : St E c 180 ⊢ iprop((∃ W, owes (c : Thread nD τ) (0 + oweX c false) W)
      ∗ ((bigSep Finset.univ fun i : Tr => semVal (sc c i) 0) ∗ bigSep Finset.univ fun i : Tr => semVal (rc c i) 0)
      ∗ own c cc0_scratch0 (comm E c)) := by
  have hO : oweT c Finset.univ = 0 := by unfold oweT; rw [Finset.compl_univ, Finset.sum_empty]
  unfold St
  rw [bef_last sendT fun i => Nat.lt_trans (send_lt i) (by decide), bef_last recvT fun i => Nat.lt_trans (recv_lt i) (by decide), bef_last drainT drain_lt,
    held_last, pieces_eq, ← own_chunks, hO]
  iintro ⟨-, -, Hr, -, -, Hs, Hb, HO⟩
  isplitl [HO]; · iexact HO
  isplitl [Hr Hs]
  · isplitl [Hs] <;> iassumption
  iexact Hb

/-! ## The whole body -/

theorem fills_step (R : sProp 𝕄) :
    iprop((own c cc0_stg3_0 (E c) ∗ bigSep Finset.univ fun k : Fin 4 => iprop(∃ f : CBuf F, chunk c 0 k fullShare f)) ∗ R)
      ⊢ run c (four fill) fun _ => iprop((own c cc0_stg3_0 (E c) ∗ bigSep Finset.univ fun k : Fin 4 => chunk c 0 k fullShare (comm E c)) ∗ R) := by
  have e (Φ : Fin 4 → sProp 𝕄) : bigSep Finset.univ Φ = iprop(Φ 0 ∗ Φ 1 ∗ Φ 2 ∗ Φ 3) := bigSep_univ_eq_bigSepL [0, 1, 2, 3] (by decide) (by decide) Φ
  rw [e, e]
  have s (k : Fin 4) (R : sProp 𝕄) := run_frame (R := R) (fill_step E c k)
  unfold four
  refine run_seq (B := fun _ => iprop((own c cc0_stg3_0 (E c) ∗ chunk c 0 0 fullShare (comm E c)) ∗ (iprop(∃ f : CBuf F, chunk c 0 1 fullShare f)
    ∗ iprop(∃ f : CBuf F, chunk c 0 2 fullShare f) ∗ iprop(∃ f : CBuf F, chunk c 0 3 fullShare f)) ∗ R)) (BIBase.Entails.trans ?_ (s 0 _)) fun _ => ?_
  · iintro ⟨⟨Hw, H0, H⟩, HR⟩
    isplitl [Hw H0]; · isplitl [Hw] <;> iassumption
    isplitl [H] <;> iassumption
  refine run_seq (B := fun _ => iprop((own c cc0_stg3_0 (E c) ∗ chunk c 0 1 fullShare (comm E c)) ∗ (chunk c 0 0 fullShare (comm E c)
    ∗ iprop(∃ f : CBuf F, chunk c 0 2 fullShare f) ∗ iprop(∃ f : CBuf F, chunk c 0 3 fullShare f)) ∗ R)) (BIBase.Entails.trans ?_ (s 1 _)) fun _ => ?_
  · iintro ⟨⟨Hw, H0⟩, ⟨H1, H⟩, HR⟩
    isplitl [Hw H1]; · isplitl [Hw] <;> iassumption
    isplitr [HR]; · isplitl [H0] <;> iassumption
    iexact HR
  refine run_seq (B := fun _ => iprop((own c cc0_stg3_0 (E c) ∗ chunk c 0 2 fullShare (comm E c)) ∗ (chunk c 0 0 fullShare (comm E c)
    ∗ chunk c 0 1 fullShare (comm E c) ∗ iprop(∃ f : CBuf F, chunk c 0 3 fullShare f)) ∗ R)) (BIBase.Entails.trans ?_ (s 2 _)) fun _ => ?_
  · iintro ⟨⟨Hw, H1⟩, ⟨H0, H2, H3⟩, HR⟩
    isplitl [Hw H2]; · isplitl [Hw] <;> iassumption
    isplitr [HR]
    · isplitl [H0]; · iexact H0
      isplitl [H1] <;> iassumption
    iexact HR
  refine BIBase.Entails.trans ?_ ((s 3 iprop((chunk c 0 0 fullShare (comm E c) ∗ chunk c 0 1 fullShare (comm E c) ∗ chunk c 0 2 fullShare (comm E c)) ∗ R)).trans
    (wp_mono _ _ _ fun _ => ?_))
  · iintro ⟨⟨Hw, H2⟩, ⟨H0, H1, H3⟩, HR⟩
    isplitl [Hw H3]; · isplitl [Hw] <;> iassumption
    isplitr [HR]
    · isplitl [H0]; · iexact H0
      isplitl [H1] <;> iassumption
    iexact HR
  · iintro ⟨⟨Hw, H3⟩, ⟨H0, H1, H2⟩, HR⟩
    isplitr [HR]
    · isplitl [Hw]; · iexact Hw
      isplitl [H0]; · iexact H0
      isplitl [H1]; · iexact H1
      isplitl [H2] <;> iassumption
    iexact HR

variable (x : FVec F S1024x256 .bf16) (rw0 : FVec F S256x64 .bf16) (ix : (cc0_stg2_0 : Ref sig .tc).ty.Contents (Elt F))

theorem run_then {c : Dev nD} {p : Pr F Unit} {A B : sProp 𝕄} (hp : A ⊢ run c p fun _ => B) (q : Pr F PUnit) {C : PUnit → sProp 𝕄} (hq : B ⊢ run c q C) :
    A ⊢ run c (do p; q) C := run_seq hp fun _ => hq

/-- What the exit handshake takes. -/
def exitRes : sProp 𝕄 :=
  iprop(shakeTok (F := F) c false ∗ cred (tallyAt (kcell (c, .inl false)) () 2) ∗ atPos ER (kcell (c, .inl false)) 0 ∅ 0)

/-- The body's transfers and products, between the handshakes. -/
def mid (c : Dev nD) : Pr F PUnit := do
  gating
  consume 0 (myW c)
  stages c
  stage7 c
  stage8 c
  drains
  shake c exS

attribute [local irreducible] stages stage7 stage8 drains gating consume in
theorem mid_step (g xb a) (Z : sProp 𝕄) :
    At E K c 8 iprop(bufs c g xb a ∗ (ins c x rw0 ix ∗ own c cc0_stg3_0 (E c)) ∗ exitRes c ∗ Z) ⊢ run c (mid c) fun _ =>
      iprop((∃ W, owes (c : Thread nD τ) 0 W)
        ∗ (semVal (kcell (c, .inl false)) 0 ∗ (bigSep Finset.univ fun i : Tr => semVal (sc c i) 0) ∗ bigSep Finset.univ fun i : Tr => semVal (rc c i) 0)
        ∗ own c cc0_scratch0 (comm E c) ∗ bufs c (gates x rw0 ix) (toks x) (result E c (gates x rw0 ix) (toks x)) ∗ (ins c x rw0 ix ∗ own c cc0_stg3_0 (E c)) ∗ Z) := by
  let R : sProp 𝕄 := iprop((ins c x rw0 ix ∗ own c cc0_stg3_0 (E c)) ∗ exitRes c ∗ Z)
  let C : PUnit → sProp 𝕄 := fun _ => iprop((∃ W, owes (c : Thread nD τ) 0 W)
        ∗ (semVal (kcell (c, .inl false)) 0 ∗ (bigSep Finset.univ fun i : Tr => semVal (sc c i) 0) ∗ bigSep Finset.univ fun i : Tr => semVal (rc c i) 0)
        ∗ own c cc0_scratch0 (comm E c) ∗ bufs c (gates x rw0 ix) (toks x) (result E c (gates x rw0 ix) (toks x)) ∗ (ins c x rw0 ix ∗ own c cc0_stg3_0 (E c)) ∗ Z)
  have h0 : At E K c 8 iprop(bufs c (gates x rw0 ix) (toks x) zeros ∗ R) ⊢ run c (consume 0 (myW c)) fun _ =>
      At E K c 8 iprop(bufs c (gates x rw0 ix) (toks x) (acc E c (gates x rw0 ix) (toks x) 0) ∗ R) :=
    at_consume E K c _ _ 0 (myW c) (by decide +kernel) zeros R
  have hst : At E K c 8 iprop(bufs c (gates x rw0 ix) (toks x) (acc E c (gates x rw0 ix) (toks x) 0) ∗ R) ⊢ run c (stages c) fun _ =>
      At E K c 104 iprop(bufs c (gates x rw0 ix) (toks x) (acc E c (gates x rw0 ix) (toks x) 6) ∗ R) :=
    stages_step E K c _ _ R
  have h7 : At E K c 104 iprop(bufs c (gates x rw0 ix) (toks x) (acc E c (gates x rw0 ix) (toks x) 6) ∗ R) ⊢ run c (stage7 c) fun _ =>
      At E K c 116 iprop(bufs c (gates x rw0 ix) (toks x) (acc E c (gates x rw0 ix) (toks x) 7) ∗ R) :=
    stage7_step E K c _ _ _ R
  have h8 : At E K c 116 iprop(bufs c (gates x rw0 ix) (toks x) (acc E c (gates x rw0 ix) (toks x) 7) ∗ R) ⊢ run c (stage8 c) fun _ =>
      At E K c 120 iprop(bufs c (gates x rw0 ix) (toks x) (result E c (gates x rw0 ix) (toks x)) ∗ R) :=
    stage8_step E K c _ _ _ R
  unfold mid
  refine run_seq (B := fun _ => At E K c 8 iprop(bufs c (gates x rw0 ix) (toks x) zeros ∗ R)) ?_ fun _ => ?_
  · refine BIBase.Entails.trans ?_ ((run_frame (R := iprop((env E K ∗ St E c 8) ∗ own c cc0_stg3_0 (E c) ∗ exitRes c ∗ Z)) (gating_step c x rw0 ix g xb a)).trans
      (wp_mono _ _ _ fun _ => ?_))
    · iintro ⟨HS, Hb, ⟨Hi, Hw⟩, HR⟩
      isplitl [Hi Hb]; · isplitl [Hi] <;> iassumption
      isplitl [HS]; · iexact HS
      isplitl [Hw] <;> iassumption
    · iintro ⟨⟨Hi, Hb⟩, HS, Hw, HR⟩
      isplitl [HS]; · iexact HS
      isplitl [Hb]; · iexact Hb
      isplitl [Hi Hw]; · isplitl [Hi] <;> iassumption
      iexact HR
  have hd := drains_step E K c iprop(bufs c (gates x rw0 ix) (toks x) (result E c (gates x rw0 ix) (toks x)) ∗ R)
  have t0 := run_then (C := C) h0
  have t1 := run_then (C := C) hst
  have t7 := run_then (C := C) h7
  have t8 := run_then (C := C) h8
  have td := run_then (C := C) hd
  refine t0 _ (t1 (do stage7 c; stage8 c; drains; shake c exS) (t7 (do stage8 c; drains; shake c exS) (t8 (do drains; shake c exS) (td (shake c exS) ?_))))
  have hsh := run_frame (R := iprop(((bigSep Finset.univ fun i : Tr => semVal (sc c i) 0) ∗ bigSep Finset.univ fun i : Tr => semVal (rc c i) 0)
        ∗ own c cc0_scratch0 (comm E c) ∗ bufs c (gates x rw0 ix) (toks x) (result E c (gates x rw0 ix) (toks x)) ∗ (ins c x rw0 ix ∗ own c cc0_stg3_0 (E c)) ∗ Z))
    (shake_core E K c false exS rfl 0 (env_wait E K c (.inl false) 100 (Nat.le_refl _) 0 fun g u h => absurd h (Nat.lt_irrefl 0)))
  refine BIBase.Entails.trans ?_ (hsh.trans (wp_mono _ _ _ fun _ => ?_))
  · iintro ⟨⟨#He, HS⟩, Hb, Hi, Hx, HZ⟩
    unfold exitRes
    icases Hx with ⟨Ht, Hc, Ha⟩
    unfold shakeTok
    ihave HS' := (st_last E c) $$ HS
    icases HS' with ⟨HO, Hz, Hk⟩
    isplitl [HO Ht Hc Ha]
    · isplitr; · iexact He
      isplitl [HO]; · iexact HO
      isplitl [Ht]; · iexact Ht
      isplitr; · simp only [pay]; isplitl <;> iempintro
      isplitl [Hc] <;> iassumption
    isplitl [Hz]; · iexact Hz
    isplitl [Hk]; · iexact Hk
    isplitl [Hb]; · iexact Hb
    isplitl [Hi] <;> iassumption
  · iintro ⟨⟨-, HO, Hx, -, -⟩, Hz, Hk, Hb, Hi, HZ⟩
    isplitl [HO]; · iexact HO
    isplitl [Hx Hz]; · isplitl [Hx] <;> iassumption
    isplitl [Hk]; · iexact Hk
    isplitl [Hb]; · iexact Hb
    isplitl [Hi] <;> iassumption

/-- The body on device `c`. -/
theorem body_step (g xb a) :
    iprop(env E K ∗ (payTok c ∗ dealt c ∗ places c) ∗ (∃ W, owes (c : Thread nD τ) (O₀ c) W)
        ∗ (ins c x rw0 ix ∗ own c cc0_stg3_0 (E c)) ∗ bufs c g xb a ∗ ∃ f : CBuf F, own c cc0_scratch0 f)
      ⊢ run c (bodyOn c) fun _ => iprop((∃ W, owes (c : Thread nD τ) 0 W) ∗ (bigSep Finset.univ fun y : Cls => semVal (kcell (c, y)) 0)
        ∗ own c cc0_scratch0 (comm E c) ∗ bufs c (gates x rw0 ix) (toks x) (result E c (gates x rw0 ix) (toks x)) ∗ ins c x rw0 ix ∗ own c cc0_stg3_0 (E c)) := by
  show _ ⊢ run c (do shake c barS; four fill; four (fun k => do send c (.inl (0, k)); send c (.inr (0, k))); mid c) _
  have hsh := run_frame (R := iprop(((bigSep Finset.univ fun i : Tr => dutyTok ER (sc c i) 0 false) ∗ bigSep Finset.univ fun i : Tr => dutyTok ER (rc (tdev c i) i) 0 false)
        ∗ (bigSep Finset.univ fun i : Tr => cred (tallyAt (rc c i) () N))
        ∗ ((bigSep Finset.univ fun i : Tr => atPos ER (sc c i) 0 ∅ 0) ∗ bigSep Finset.univ fun i : Tr => atPos ER (rc c i) 0 ∅ 0)
        ∗ (bigSep Finset.univ fun k : Fin 4 => iprop(∃ f : CBuf F, chunk c 0 k fullShare f)) ∗ bufs c g xb a ∗ (ins c x rw0 ix ∗ own c cc0_stg3_0 (E c)) ∗ exitRes c))
    (shake_core E K c true barS rfl (oweT c ∅ + oweX c false) (env_wait E K c (.inl true) 1 (Nat.le_refl _) _ (oweTX_lev (by decide) fun i _ => by omega)))
  refine run_seq (BIBase.Entails.trans ?_ hsh) fun _ => ?_
  · unfold payTok dealt places exitRes O₀
    rw [cls_eq]
    iintro ⟨#He, ⟨⟨Ht1, Ht2, Hts, Htr⟩, ⟨Hc1, Hc2, Hcr⟩, ⟨⟨Ha1, Ha2⟩, Has, Har⟩⟩, HO, Hi, Hb, Hk⟩
    ihave Hk' := (split_buf E c) $$ Hk
    icases Hk' with ⟨Hk, Hp⟩
    isplitl [HO Ht1 Hp Hc1 Ha1]
    · isplitr; · iexact He
      isplitl [HO]; · iexact HO
      isplitl [Ht1]; · unfold shakeTok; iexact Ht1
      isplitl [Hp]; · iexact Hp
      isplitl [Hc1] <;> iassumption
    isplitl [Hts Htr]; · isplitl [Hts] <;> iassumption
    isplitl [Hcr]; · iexact Hcr
    isplitl [Has Har]; · isplitl [Has] <;> iassumption
    isplitl [Hk]; · iexact Hk
    isplitl [Hb]; · iexact Hb
    isplitl [Hi]; · iexact Hi
    isplitl [Ht2]; · iexact Ht2
    isplitl [Hc2] <;> iassumption
  refine run_seq (BIBase.Entails.trans ?_ (fills_step E c iprop(env E K ∗ (∃ W, owes (c : Thread nD τ) (oweT c ∅ + oweX c false) W) ∗ semVal (kcell (c, .inl true)) 0
        ∗ (bigSep Finset.univ fun i : Tr => land c i)
        ∗ ((bigSep Finset.univ fun i : Tr => dutyTok ER (sc c i) 0 false) ∗ bigSep Finset.univ fun i : Tr => dutyTok ER (rc (tdev c i) i) 0 false)
        ∗ (bigSep Finset.univ fun i : Tr => cred (tallyAt (rc c i) () N))
        ∗ ((bigSep Finset.univ fun i : Tr => atPos ER (sc c i) 0 ∅ 0) ∗ bigSep Finset.univ fun i : Tr => atPos ER (rc c i) 0 ∅ 0)
        ∗ bufs c g xb a ∗ ins c x rw0 ix ∗ exitRes c))) fun _ => ?_
  · simp only [pay]
    rw [bigSep_univ_sum (fun i : Tr => land (F := F) c i)]
    iintro ⟨⟨He, HO, Hz, Hp⟩, Ht, Hcr, Ha, Hk, Hb, ⟨Hi, Hw⟩, Hx⟩
    isplitl [Hw Hk]; · isplitl [Hw] <;> iassumption
    isplitl [He]; · iexact He
    isplitl [HO]; · iexact HO
    isplitl [Hz]; · iexact Hz
    isplitl [Hp]; · iexact Hp
    isplitl [Ht]; · iexact Ht
    isplitl [Hcr]; · iexact Hcr
    isplitl [Ha]; · iexact Ha
    isplitl [Hb]; · iexact Hb
    isplitl [Hi] <;> iassumption
  refine run_seq (BIBase.Entails.trans ?_ (hop0_step E K c iprop(bufs c g xb a ∗ (ins c x rw0 ix ∗ own c cc0_stg3_0 (E c)) ∗ exitRes c ∗ semVal (kcell (c, .inl true)) 0))) fun _ => ?_
  · iintro ⟨⟨Hw, Hk⟩, He, HO, Hz, Hl, Ht, Hcr, Ha, Hb, Hi, Hx⟩
    isplitr [Hz Hw Hb Hi Hx]
    · isplitl [He]; · iexact He
      iapply (st_zero E c)
      isplitl [Ht]; · iexact Ht
      isplitl [Hl]; · iexact Hl
      isplitl [Hcr]; · iexact Hcr
      isplitl [Ha]; · iexact Ha
      isplitl [Hk] <;> iassumption
    isplitl [Hb]; · iexact Hb
    isplitl [Hi Hw]; · isplitl [Hi] <;> iassumption
    isplitl [Hx] <;> iassumption
  refine (mid_step E K c x rw0 ix g xb a _).trans (wp_mono _ _ _ fun _ => ?_)
  rw [cls_eq (fun y : Cls => (semVal (kcell (c, y)) 0 : sProp 𝕄))]
  iintro ⟨HO, ⟨Hx, Hz⟩, Hk, Hb, Hi, Hy⟩
  isplitl [HO]; · iexact HO
  isplitl [Hx Hz Hy]
  · isplitl [Hx Hy]; · isplitl [Hy] <;> iassumption
    iexact Hz
  isplitl [Hk]; · iexact Hk
  isplitl [Hb] <;> iassumption

end Cert.KernelIdeal.Moe

end
-- ==== Proof.IDat.lean ====
/-
The launch's account of the kernel's one point: what each device's staging buffers hold before and after its body, what
the body starts from and leaves, and the body's run in that account.
-/
module

public import proofs.«01_k».proof.Proof.IEnds

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What is staged -/

/-- Device `c`'s tokens, -/
def xAt (c : Dev nD) : FVec F S1024x256 .bf16 := (win0_0.blk (0 : Fin 1)).view.read (Elt F) (m ((c : Thread nD τ).loc main_arg0))
/-- the router, -/
def wAt (c : Dev nD) : FVec F S256x64 .bf16 := (win0_1.blk (0 : Fin 1)).view.read (Elt F) (m ((c : Thread nD τ).loc main_arg1))
/-- the tokens' choices, -/
def iAt (c : Dev nD) : (cc0_stg2_0 : Ref sig .tc).ty.Contents (Elt F) := (win0_2.blk (0 : Fin 1)).view.read (Elt F) (m ((c : Thread nD τ).loc main_arg2))
/-- and its experts. -/
def eAt (c : Dev nD) : EBuf F := (win0_3.blk (0 : Fin 1)).view.read (Elt F) (m ((c : Thread nD τ).loc main_arg3))

/-- The gates device `c` computes, -/
def gAt (c : Dev nD) : FVec F S1024x64 .f32 := gates (xAt m c) (wAt m c) (iAt m c)
/-- and the result. -/
def outAt (c : Dev nD) : FVec F S1024x512 .f32 := result (eAt m) c (gAt m c) (toks (xAt m c))

/-! ## The proof data -/

/-- What device `c`'s body starts from beside its buffers. -/
def start (c : Dev nD) : sProp 𝕄 := iprop((∃ K, env (eAt m) K) ∗ payTok (F := F) c ∗ dealt (F := F) c ∗ places (F := F) c)

/-- The kernel's scratch buffers, at any contents. -/
def scratch (c : Dev nD) : sProp 𝕄 :=
  iprop((∃ f : CBuf F, own c cc0_scratch0 f) ∗ (∃ f : FVec F S1024x256 .bf16, own c cc0_scratch1 f) ∗ ∃ f : FVec F S1024x64 .f32, own c cc0_scratch2 f)

def Φ₀ (c : Dev nD) : sProp 𝕄 := iprop(start m c ∗ scratch (F := F) c)
def Φ₁ (c : Dev nD) : sProp 𝕄 := iprop(scratch (F := F) c ∗ bigSep Finset.univ fun y : Cls => semVal (kcell (c, y)) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => iAt m c
    | ⟨3, _⟩ => eAt m c
    | ⟨4, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_own (c : Dev nD) (b : Ref sig .tc) (X : b.ty.Contents (Elt F)) : (stg c b X : sProp 𝕄) ⊣⊢ own c b X := by
  unfold stg own
  constructor
  · iintro ⟨%f, %h, H⟩; subst h; iexact H
  · iintro H; iexists X; isplitr; · (ipureintro; rfl)
    iexact H

theorem fetch_in (w : Fin cfg0.W) (hw : w.val < 4) (t : Fin cfg0.N) : (cfg0.win w).fetch t = true := by
  rw [fin_N0 t]; obtain ⟨w, h⟩ := w; interval_cases w <;> rfl

theorem before_0 (c : Dev nD) (d) : (dats m 0 c).before (0 : Fin 5) t0_0 d = xAt m c := by
  unfold Dat.before; rw [if_pos (fetch_in 0 (by decide) t0_0)]; rfl
theorem before_1 (c : Dev nD) (d) : (dats m 0 c).before (1 : Fin 5) t0_0 d = wAt m c := by
  unfold Dat.before; rw [if_pos (fetch_in 1 (by decide) t0_0)]; rfl
theorem before_2 (c : Dev nD) (d) : (dats m 0 c).before (2 : Fin 5) t0_0 d = iAt m c := by
  unfold Dat.before; rw [if_pos (fetch_in 2 (by decide) t0_0)]; rfl
theorem before_3 (c : Dev nD) (d) : (dats m 0 c).before (3 : Fin 5) t0_0 d = eAt m c := by
  unfold Dat.before; rw [if_pos (fetch_in 3 (by decide) t0_0)]; rfl

/-! ## The body -/

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ ∗ stg c cc0_stg0_0 (xAt m c) ∗ stg c cc0_stg1_0 (wAt m c)
    ∗ stg c cc0_stg2_0 (iAt m c) ∗ stg c cc0_stg3_0 (eAt m c) ∗ stg c cc0_stg4_0 (outAt m c))

omit [FloatOps F] in
theorem owes_in (c : Dev nD) (t : Fin (cfg0.N + 1)) (D : Dat τ (Elt F) Unit ℕ UU ℕ cfg0 c) :
    (D.owesAt () t : sProp 𝕄) ⊢ iprop(∃ W, owes (c : Thread nD τ) (D.owed t) W) := by
  unfold Dat.owesAt Pipeline.owesWithin
  iintro ⟨%W, -, H⟩
  iexists W; iexact H

theorem owes_out (c : Dev nD) :
    iprop(∃ W, owes (c : Thread nD τ) 0 W) ⊢ ((dats m 0 c).owesAt () t0_0.succ : sProp 𝕄) := by
  unfold Dat.owesAt Pipeline.owesWithin
  rw [show (dats m 0 c).owed t0_0.succ = 0 from rfl]
  iintro ⟨%W, H⟩
  iexists W
  isplitr; · ipureintro; exact fun _ _ => Or.inl trivial
  iexact H

omit [FloatOps F] in
theorem own_def (c : Dev nD) (b : Ref sig .tc) (f : b.ty.Contents (Elt F)) : (own c b f : sProp 𝕄) = (((c : Thread nD τ).loc b) ↦{fullShare} f) := rfl

/-- What the body's run starts from. -/
def atStart (c : Dev nD) (K : Dev nD × Cls → ℕ) (g : FVec F S1024x64 .f32) (xb : FVec F S1024x256 .bf16) (a : FVec F S1024x512 .f32) : sProp 𝕄 :=
  iprop(env (eAt m) K ∗ (payTok (F := F) c ∗ dealt (F := F) c ∗ places (F := F) c) ∗ (∃ W, owes (c : Thread nD τ) (O₀ c) W)
    ∗ (ins c (xAt m c) (wAt m c) (iAt m c) ∗ own c cc0_stg3_0 (eAt m c)) ∗ bufs c g xb a ∗ ∃ f : CBuf F, own c cc0_scratch0 f)

/-- What it ends with. -/
def atEnd (c : Dev nD) : sProp 𝕄 :=
  iprop((∃ W, owes (c : Thread nD τ) 0 W) ∗ (bigSep Finset.univ fun y : Cls => semVal (kcell (c, y)) 0)
    ∗ own c cc0_scratch0 (comm (eAt m) c) ∗ bufs c (gAt m c) (toks (xAt m c)) (outAt m c) ∗ ins c (xAt m c) (wAt m c) (iAt m c) ∗ own c cc0_stg3_0 (eAt m c))

theorem pre_start (c : Dev nD) : bodyPre m c ⊢ iprop(∃ K, ∃ g, ∃ xb, ∃ a, atStart m c K g xb a) := by
  unfold bodyPre Φ₀ start scratch
  iintro ⟨⟨⟨⟨%K, #He⟩, Ht, Hc, Hp⟩, Hs0, ⟨%xb, Hs1⟩, ⟨%g, Hs2⟩⟩, Ho, ⟨%d0, H0⟩, ⟨%d1, H1⟩, ⟨%d2, H2⟩, ⟨%d3, H3⟩, ⟨%d4, H4⟩⟩
  rw [before_0, before_1, before_2, before_3]
  ihave H0 := (stg_own c cc0_stg0_0 _).1 $$ H0
  ihave H1 := (stg_own c cc0_stg1_0 _).1 $$ H1
  ihave H2 := (stg_own c cc0_stg2_0 _).1 $$ H2
  ihave H3 := (stg_own c cc0_stg3_0 _).1 $$ H3
  ihave H4 := (stg_own c cc0_stg4_0 _).1 $$ H4
  ihave Ho := (owes_in c t0_0.castSucc (dats m 0 c)) $$ Ho
  iexists K; iexists g; iexists xb; iexists _
  unfold atStart bufs ins
  isplitr; · iexact He
  isplitl [Ht Hc Hp]
  · isplitl [Ht]; · iexact Ht
    isplitl [Hc] <;> iassumption
  isplitl [Ho]; · iexact Ho
  isplitl [H0 H1 H2 H3]
  · isplitl [H0 H1 H2]
    · isplitl [H0]; · iexact H0
      isplitl [H1] <;> iassumption
    iexact H3
  isplitl [Hs2 Hs1 H4]
  · isplitl [Hs2]; · iexact Hs2
    isplitl [Hs1]; · iexact Hs1
    iexact H4
  iexact Hs0

theorem end_post (c : Dev nD) : atEnd m c ⊢ bodyPost m c := by
  unfold atEnd bodyPost Φ₁ scratch bufs ins
  iintro ⟨Ho, Hz, Hs0, ⟨Hs2, Hs1, H4⟩, ⟨H0, H1, H2⟩, H3⟩
  isplitl [Hz Hs0 Hs1 Hs2]
  · isplitl [Hs0 Hs1 Hs2]
    · isplitl [Hs0]; · iexists _; iexact Hs0
      isplitl [Hs1]; · iexists _; iexact Hs1
      iexists _; iexact Hs2
    iexact Hz
  isplitl [Ho]; · iapply (owes_out m c); iexact Ho
  isplitl [H0]; · iapply (stg_own c cc0_stg0_0 _).2; iexact H0
  isplitl [H1]; · iapply (stg_own c cc0_stg1_0 _).2; iexact H1
  isplitl [H2]; · iapply (stg_own c cc0_stg2_0 _).2; iexact H2
  isplitl [H3]; · iapply (stg_own c cc0_stg3_0 _).2; iexact H3
  iapply (stg_own c cc0_stg4_0 _).2; iexact H4

theorem body_on (c : Dev nD) (K : Dev nD × Cls → ℕ) (g : FVec F S1024x64 .f32) (xb : FVec F S1024x256 .bf16) (a : FVec F S1024x512 .f32) : atStart m c K g xb a ⊢ run c (bodyOn c) fun _ => bodyPost m c :=
  BIBase.Entails.trans (body_step (eAt m) K c (xAt m c) (wAt m c) (iAt m c) g xb a) (wp_mono _ _ _ fun _ => end_post m c)

/-- The printed body's run, from what the launch hands it to what it hands back. -/
theorem sound_body (c : Dev nD) : bodyPre m c ⊢ run c (bodyAt0 (F := F) t0_0) fun _ => bodyPost m c := by
  rw [body_eq]
  unfold body run
  simp only [Prog.lift, Prog.bind_op, Prog.bind_ret, Prog.pure_eq_ret, wp_deviceId]
  refine BIBase.Entails.trans (pre_start m c) ?_
  iintro ⟨%K, %g, %xb, %a, H⟩
  iapply (body_on m c K g xb a)
  iexact H

attribute [local irreducible] cc0_body in
set_option maxRecDepth 16384 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

end Cert.KernelIdeal.Moe

end
-- ==== Proof.ILaunch.lean ====
/-
The launch: the ring's ghost state allocated for all devices at once, its tokens dealt around the ring, the credit the
devices' debts give, and the run of @main.
-/
module

public import proofs.«01_k».proof.Proof.IDat
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: the exit barrier and the transfers'. -/
def osem : Unit ⊕ (Tr ⊕ Tr) → SemLoc sig
  | .inl _ => csem (.inl false)
  | .inr j => csem (.inr j)

theorem scoped_reg : (SemLoc.reg exS : SemLoc sig).isScoped .tc = true := by decide
theorem scoped_dma : ∀ q : DmaSem sig, (SemLoc.dma q : SemLoc sig).isScoped .tc = true := by decide +kernel
theorem staging_low : ∀ (w : Fin 5) (s : Fin (spec0 w).nbuf), ((spec0 w).sem s).val < 5 := by decide

theorem csem_staging (x : Cls) (w : Fin 5) (s : Fin (spec0 w).nbuf) : csem x ≠ .dma ((spec0 w).sem s) := fun h => by
  have h1 := congrArg snum h
  rw [snum_csem] at h1
  have h2 := staging_low w s
  have h3 : snum (.dma ((spec0 w).sem s)) = ((spec0 w).sem s).val + 2 := rfl
  rcases x with (_ | _) | ((⟨a, k⟩ | ⟨a, k⟩) | (⟨a, k⟩ | ⟨a, k⟩))
  · cases h
  · cases h
  all_goals (simp only [cnum] at h1; omega)

theorem ownSemFacts : Pipeline.OwnSemFacts cfg0.spec osem where
  isScoped k := by
    rcases k with _ | (i | i)
    · exact scoped_reg
    · exact scoped_dma _
    · exact scoped_dma _
  inj := by
    rintro (_ | x) (_ | y) h
    · rfl
    · exact absurd (csem_injective (a₁ := .inl false) (a₂ := .inr y) h) (by simp)
    · exact absurd (csem_injective (a₁ := .inr x) (a₂ := .inl false) h) (by simp)
    · exact congrArg Sum.inr (Sum.inr_injective (csem_injective h))
  disj k w s := by
    rcases k with _ | j
    · exact csem_staging (.inl false) w s
    · exact csem_staging (.inr j) w s

theorem share_eq (c : Dev nD) (w : Fin cfg0.W) : (dats m 0 c).share w = fullShare := by unfold Dat.share; split <;> rfl

/-- All cells. -/
def ringCells : Finset (GSem nD τ sig) := Finset.univ.map ⟨kcell, kcell_injective⟩

/-- A device's duties: two at each handshake, one at each departure and arrival. -/
abbrev Tk : Type := (Bool × Bool) ⊕ (Tr ⊕ Tr)
def tokOf (x : Dev nD × Tk) : GSem nD τ sig × ℕ × Bool := match x.2 with
  | .inl (b, d) => (kcell (x.1, .inl b), 0, d)
  | .inr j => (kcell (x.1, .inr j), 0, false)
theorem tokOf_injective : Function.Injective tokOf := by
  rintro ⟨c, (⟨b, d⟩ | j)⟩ ⟨c', (⟨b', d'⟩ | j')⟩ h
  · have h1 := kcell_injective (congrArg Prod.fst h)
    have h2 : d = d' := congrArg (fun x => x.2.2) h
    cases h1; cases h2; rfl
  · have h1 := kcell_injective (congrArg Prod.fst h); cases h1
  · have h1 := kcell_injective (congrArg Prod.fst h); cases h1
  · have h1 := kcell_injective (congrArg Prod.fst h); cases h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- One device's own handshake duties. -/
def ownShake (c : Dev nD) (b : Bool) : sProp 𝕄 := iprop(dutyTok ER (kcell (c, .inl b)) 0 true ∗ dutyTok ER (kcell (c, .inl b)) 0 false)
/-- The duty tokens of device `c`'s own cells. -/
def ownTok (c : Dev nD) : sProp 𝕄 :=
  iprop(ownShake (F := F) c true ∗ ownShake (F := F) c false ∗ (bigSep Finset.univ fun i : Tr => dutyTok ER (sc c i) 0 false)
    ∗ bigSep Finset.univ fun i : Tr => dutyTok ER (rc c i) 0 false)

omit [FloatOps F] in
theorem tk_eq (Φ : Tk → sProp 𝕄) : bigSep Finset.univ Φ = iprop(((Φ (.inl (true, true)) ∗ Φ (.inl (true, false))) ∗ Φ (.inl (false, true)) ∗ Φ (.inl (false, false)))
    ∗ (bigSep Finset.univ fun i : Tr => Φ (.inr (.inl i))) ∗ bigSep Finset.univ fun i : Tr => Φ (.inr (.inr i))) := by
  have two (Ψ : Bool → sProp 𝕄) : bigSep Finset.univ Ψ = iprop(Ψ true ∗ Ψ false) := by
    rw [bigSep_univ_eq_bigSepL [true, false] (by decide) (by decide), bigSepL_cons_cons, bigSepL_singleton]; rfl
  rw [bigSep_univ_sum, bigSep_univ_sum, bigSep_univ_prod, two, two, two]
  rfl

omit [FloatOps F] in
theorem regroup4 (A B C D : sProp 𝕄) : iprop((A ∗ B) ∗ C ∗ D) ⊢ iprop(A ∗ B ∗ C ∗ D) := by
  iintro ⟨⟨HA, HB⟩, HC, HD⟩
  isplitl [HA]; · iexact HA
  isplitl [HB]; · iexact HB
  isplitl [HC] <;> iassumption

/-- What the launch element deals device `c`. -/
def G (c : Dev nD) : sProp 𝕄 :=
  iprop((bigSep Finset.univ fun x : Cls => roundState ER (sched (eAt m)) (kcell (c, x)) 0)
    ∗ (bigSep Finset.univ fun x : Cls => iprop(atPos ER (kcell (c, x)) 0 ∅ 0 ∗ reached ER (kcell (c, x)) 0)) ∗ ownTok (F := F) c)

/-- What the global step makes of it. -/
def G' (c : Dev nD) : sProp 𝕄 :=
  iprop((∃ K : Dev nD × Cls → ℕ, (bigSep Finset.univ fun x : Dev nD × Cls => cellInv ER (sched (eAt m)) (K x) (kcell x)) ∗ bigSep Finset.univ fun x : Dev nD × Cls => reached ER (kcell x) 0)
    ∗ payTok (F := F) c ∗ places (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cls => Φ (kcell (c, x)) := by
    unfold ringCells; rw [bigSep_map, bigSep_univ_prod]; rfl
  have hT : bigSep ringToks (fun x => (dutyTok ER x.1 x.2.1 x.2.2 : sProp 𝕄)) ⊢ bigSep Finset.univ fun c : Dev nD => ownTok (F := F) c := by
    unfold ringToks; rw [bigSep_map, bigSep_univ_prod]
    refine bigSep_mono fun c _ => ?_
    unfold ownTok ownShake; rw [tk_eq]
    exact regroup4 _ _ _ _
  iintro HX
  imod (Rounds.fund ER (sched (eAt m)) ringCells ringToks) $$ HX with ⟨Hst, Hr, Hat, Htok⟩
  imodintro
  ihave Hst' := (Entails.of_eq (hX fun g => roundState ER (sched (eAt m)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, .inl false)) 0 ∗ (bigSep Finset.univ fun i : Tr => semVal (kcell (c, .inr (.inl i))) 0) ∗ bigSep Finset.univ fun i : Tr => semVal (kcell (c, .inr (.inr i))) 0) := by
  unfold Pipeline.ownSems0
  rw [bigSep_univ_sum, bigSep_univ_sum, bigSep_univ_eq_bigSepL [()] (by decide) (by decide), bigSepL_singleton]
  rfl

omit [FloatOps F] in
theorem unscopedSems0_eq (c : Dev nD) : (unscopedSems0 c : sProp 𝕄) = semVal (kcell (c, .inl true)) 0 := by
  unfold unscopedSems0; rw [bigSep_eq_bigSepL_of_eq [SemLoc.reg barS] (by decide +kernel) (by decide)]; rfl

omit [FloatOps F] in
theorem sems0_in (c : Dev nD) :
    iprop(Pipeline.ownSems0 (Ix := Unit) (Name := ℕ) (U := UU) (Lvl := ℕ) (Val := Elt F) (τ := τ) osem c ∗ unscopedSems0 c)
      ⊢ (bigSep Finset.univ fun x : Cls => semVal (kcell (c, x)) 0 : sProp 𝕄) := by
  rw [ownSems0_eq, unscopedSems0_eq, cls_eq]
  iintro ⟨⟨HX, HS, HV⟩, HB⟩
  isplitl [HB HX]; · isplitl [HB] <;> iassumption
  isplitl [HS] <;> iassumption

omit [FloatOps F] in
theorem sems0_out (c : Dev nD) :
    (bigSep Finset.univ fun x : Cls => semVal (kcell (c, x)) 0 : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, cls_eq]
  iintro ⟨⟨HB, HX⟩, HS, HV⟩
  isplitl [HB]; · iexact HB
  isplitl [HX]; · iexact HX
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cls => iprop(∃ κ : ℕ, cellInv ER (sched (eAt m)) κ (kcell (c, x))))
          ∗ (bigSep Finset.univ fun x : Cls => iprop(atPos ER (kcell (c, x)) 0 ∅ 0 ∗ reached ER (kcell (c, x)) 0)) ∗ ownTok (F := F) c) := by
  have ha : iprop((bigSep Finset.univ fun x : Cls => semVal (kcell (c, x)) 0) ∗ bigSep Finset.univ fun x : Cls => roundState ER (sched (eAt m)) (kcell (c, x)) 0)
      ⊢ (|={Set.univ}=> bigSep Finset.univ fun x : Cls => iprop(∃ κ : ℕ, cellInv ER (sched (eAt m)) κ (kcell (c, x))) : sProp 𝕄) := by
    rw [← bigSep_sep']
    exact (bigSep_mono fun x _ => (Rounds.body_intro ER (sched (eAt m)) (kcell (c, x))).trans inv_alloc).trans (bigSep_fupd _ _)
  unfold G
  iintro ⟨Hos, Hus, Hst, Hat, Htok⟩
  ihave Hv := (sems0_in (F := F) c) $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

omit [FloatOps F] in
/-- The tokens dealt around the ring: each duty's to the device that pays it. -/
theorem toks_around : (bigSep Finset.univ fun c : Dev nD => (ownTok (F := F) c : sProp 𝕄)) ⊢ bigSep Finset.univ fun c : Dev nD => payTok (F := F) c := by
  have shake (b : Bool) : (bigSep Finset.univ fun c : Dev nD => (ownShake (F := F) c b : sProp 𝕄)) = bigSep Finset.univ fun c : Dev nD => shakeTok (F := F) c b := by
    unfold ownShake shakeTok
    rw [bigSep_sep', bigSep_sep', bigSep_univ_equiv ring.symm (fun c : Dev nD => (dutyTok ER (kcell (c, .inl b)) 0 true : sProp 𝕄)),
      bigSep_univ_equiv ring (fun c : Dev nD => (dutyTok ER (kcell (c, .inl b)) 0 false : sProp 𝕄))]
    rfl
  have recv : (bigSep Finset.univ fun c : Dev nD => bigSep Finset.univ fun i : Tr => (dutyTok ER (rc c i) 0 false : sProp 𝕄))
      = bigSep Finset.univ fun c : Dev nD => bigSep Finset.univ fun i : Tr => dutyTok ER (rc (tdev c i) i) 0 false := by
    rw [bigSep_univ_comm, bigSep_univ_comm (fun (c : Dev nD) (i : Tr) => (dutyTok ER (rc (tdev c i) i) 0 false : sProp 𝕄))]
    refine bigSep_congr fun i _ => ?_
    rw [bigSep_univ_equiv (tring i) (fun c : Dev nD => (dutyTok ER (rc c i) 0 false : sProp 𝕄))]
    exact bigSep_congr fun c _ => by rw [tring_apply]
  unfold ownTok payTok
  rw [bigSep_sep', bigSep_sep', bigSep_sep', bigSep_sep', bigSep_sep', bigSep_sep', shake, shake, recv]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices know of the cells. -/
def known (K : Dev nD × Cls → ℕ) : sProp 𝕄 :=
  iprop((bigSep Finset.univ fun x : Dev nD × Cls => cellInv ER (sched (eAt m)) (K x) (kcell x)) ∗ bigSep Finset.univ fun x : Dev nD × Cls => reached ER (kcell x) 0)
instance known_persistent (K : Dev nD × Cls → ℕ) : BI.Persistent (known m K) := by unfold known; infer_instance

theorem known_intro (K : Dev nD × Cls → ℕ) (c : Dev nD) : iprop(known m K ∗ (places (F := F) c ∗ payTok (F := F) c)) ⊢ G' m c := by
  unfold known G'
  iintro ⟨HK, Hp, Ht⟩
  isplitl [HK]; · iexists K; iexact HK
  isplitl [Ht] <;> iassumption

theorem regroup :
    (bigSep Finset.univ fun c : Dev nD => iprop((bigSep Finset.univ fun x : Cls => iprop(∃ κ : ℕ, cellInv ER (sched (eAt m)) κ (kcell (c, x))))
          ∗ (bigSep Finset.univ fun x : Cls => iprop(atPos ER (kcell (c, x)) 0 ∅ 0 ∗ reached ER (kcell (c, x)) 0)) ∗ ownTok (F := F) c) : sProp 𝕄)
      ⊢ bigSep Finset.univ (G' m) := by
  rw [bigSep_sep', bigSep_sep', ← bigSep_univ_prod (fun x : Dev nD × Cls => iprop(∃ κ : ℕ, cellInv ER (sched (eAt m)) κ (kcell x))),
    bigSep_congr (s := Finset.univ) (fun (c : Dev nD) _ => bigSep_sep' Finset.univ (fun x : Cls => (atPos ER (kcell (c, x)) 0 ∅ 0 : sProp 𝕄)) (fun x => reached ER (kcell (c, x)) 0)),
    bigSep_sep', ← bigSep_univ_prod (fun x : Dev nD × Cls => (reached ER (kcell x) 0 : sProp 𝕄))]
  iintro ⟨HI, ⟨Hat, #HR⟩, Htok⟩
  ihave HK := (BI.bigSep_exists_pi Finset.univ (fun (x : Dev nD × Cls) (κ : ℕ) => (cellInv ER (sched (eAt m)) κ (kcell x) : sProp 𝕄))) $$ HI
  icases HK with ⟨%K, #HI⟩
  ihave Htk := (toks_around (F := F)) $$ Htok
  iapply (bigSep_with_persistent (R := known m K) fun c _ => known_intro m K c)
  isplitr
  · unfold known; isplitl; · iexact HI
    iexact HR
  · iapply (Entails.of_eq (bigSep_sep' Finset.univ (fun c : Dev nD => places (F := F) c) (fun c => payTok (F := F) c)).symm)
    isplitl [Hat]; · unfold places; iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices owe one cell of device `c` when each owes `n` to the like cell `y` of its image. -/
theorem owed_to (e : Dev nD ≃ Dev nD) (y x : Cls) (n : ℕ) (c : Dev nD) :
    ∑ d : Dev nD, (tallyAt (kcell (e d, y)) () n : CellTallies nD τ sig Unit) (kcell (c, x)) () = if x = y then n else 0 := by
  have h (d : Dev nD) : (tallyAt (kcell (e d, y)) () n : CellTallies nD τ sig Unit) (kcell (c, x)) () = if d = e.symm c then (if x = y then n else 0) else 0 := by
    rw [tallyAt_apply]
    by_cases hd : d = e.symm c
    · subst hd
      rw [e.apply_symm_apply, if_pos rfl]
      by_cases hx : x = y
      · subst hx; rw [if_pos ⟨rfl, rfl⟩, if_pos rfl]
      · rw [if_neg fun hh => hx (Prod.mk.inj (kcell_injective hh.1)).2, if_neg hx]
    · rw [if_neg hd, if_neg]
      rintro ⟨hh, -⟩
      exact hd (e.injective ((Prod.mk.inj (kcell_injective hh)).1.symm.trans (e.apply_symm_apply c).symm))
  rw [Finset.sum_congr rfl fun d _ => h d, Finset.sum_ite_eq' Finset.univ (e.symm c), if_pos (Finset.mem_univ _)]

/-- The credit of a cell. -/
def owedTo : Cls → ℕ
  | .inl _ => 2
  | .inr (.inl _) => 0
  | .inr (.inr _) => N

theorem oweX_to (b : Bool) (x : Cls) (c : Dev nD) : ∑ d : Dev nD, oweX d b (kcell (c, x)) () = if x = .inl b then 2 else 0 := by
  unfold oweX oweR
  simp only [Pi.add_apply, Finsupp.add_apply]
  rw [Finset.sum_add_distrib]
  have h1 := owed_to ring (.inl b) x 1 c
  have h2 := owed_to ring.symm (.inl b) x 1 c
  refine (congrArg₂ (· + ·) h1 h2).trans ?_
  split <;> rfl

theorem oweT_to (x : Cls) (c : Dev nD) : ∑ d : Dev nD, oweT d ∅ (kcell (c, x)) () = ∑ i : Tr, if x = .inr (.inr i) then N else 0 := by
  unfold oweT
  rw [Finset.compl_empty]
  simp only [Finset.sum_apply, Finsupp.finset_sum_apply]
  rw [Finset.sum_comm]
  refine Finset.sum_congr rfl fun i _ => ?_
  have h := owed_to (tring i) (.inr (.inr i)) x N c
  simp only [tring_apply] at h
  exact h

theorem owed_all (x : Cls) (c : Dev nD) : ∑ d : Dev nD, O₀ d (kcell (c, x)) () = owedTo x := by
  unfold O₀
  simp only [Pi.add_apply, Finsupp.add_apply]
  rw [Finset.sum_add_distrib, Finset.sum_add_distrib, oweT_to, oweX_to, oweX_to]
  rcases x with b | (i | i)
  · cases b <;> simp [owedTo]
  · simp [owedTo]
  · simp [owedTo]

theorem launch_cell (x : Cls) (c : Dev nD) :
    tallyOn (kcell (c, x)) (launchCredit (Pipeline.owing O₀) 0 (kcell (c, x))) = (tallyAt (kcell (c, x)) () (owedTo x) : CellTallies nD τ sig Unit) := by
  unfold tallyAt; refine congrArg _ (Finsupp.ext fun u => ?_); cases u
  rw [Pipeline.launchCredit_owing, Finsupp.single_eq_same, owed_all]

omit [FloatOps F] in
theorem creds (c : Dev nD) : (Pipeline.launchCred O₀ c : sProp 𝕄) ⊢ dealt (F := F) c := by
  have h : (Pipeline.launchCred O₀ c : sProp 𝕄) ⊢ bigSep Finset.univ fun x : Cls => cred (tallyAt (kcell (c, x)) () (owedTo x)) := by
    unfold Pipeline.launchCred
    refine (bigSep_subset (Finset.subset_univ (Finset.univ.map ⟨csem, csem_injective⟩))).trans ?_
    rw [bigSep_map]
    exact bigSep_mono fun x _ => Entails.of_eq (congrArg cred (launch_cell x c))
  refine h.trans ?_
  rw [cls_eq]
  unfold dealt
  iintro ⟨⟨H1, H2⟩, -, H3⟩
  isplitl [H1]; · iexact H1
  isplitl [H2]; · iexact H2
  iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start env
  iintro ⟨-, #Hlev, Hcr, -, ⟨%K, HK⟩, Ht, Hp⟩
  ihave Hc := (creds (F := F) c) $$ Hcr
  imodintro
  isplitl
  · isplitl [HK]
    · iexists K
      isplitl [HK]; · iexact HK
      iexact Hlev
    isplitl [Ht]; · iexact Ht
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch own
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁ scratch own
  iintro ⟨Hr, Hz⟩
  ihave Hz' := (sems0_out (F := F) c) $$ Hz
  icases Hz' with ⟨HB, HO⟩
  isplitl [HB]; · iexact HB
  isplitl [HO]; · iexact HO
  iexact Hr

theorem clsOf_staging (w : Fin 5) (s : Fin (spec0 w).nbuf) : clsOf (.dma ((spec0 w).sem s)) = none := by
  rcases h : clsOf (.dma ((spec0 w).sem s)) with _ | x
  · rfl
  · exact absurd ((Function.partialInv_of_injective csem_injective x _).mp h) (csem_staging x w s)

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((spec0 w).sem s)) () ≤ 0 := by
      unfold lv; rw [clsOf_staging]
    rcases t with ⟨_ | _, ht⟩
    · exact mayWait c _ 0 hl (O₀ c) fun g u h => O₀_lev g u h
    · exact mayWait c _ 0 hl 0 fun g u h => absurd h (Nat.lt_irrefl 0)

/-! ## The run -/

/-- Every array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters every fair execution of @main on the sixteen devices terminates without fault,
    with each device's arrays as accounted and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An array a window reads is after the run what it was. -/
theorem finalA_in (c : Dev nD) (w : Fin cfg0.W) (hw : (cfg0.spec w).isOut = false) : finalA m c w = m ((cfg0.win w).arr.view.loc (c : Thread nD τ)) :=
  (dats (F := F) m 0 c).arrAt_in w hw _

/-- The run read at the arguments and the counters. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (0 : Fin 5)).trans (finalA_in m c 0 rfl), (h.1 c (1 : Fin 5)).trans (finalA_in m c 1 rfl),
    (h.1 c (2 : Fin 5)).trans (finalA_in m c 2 rfl), (h.1 c (3 : Fin 5)).trans (finalA_in m c 3 rfl)⟩, h.2⟩) (run_main m ρ)

end Cert.KernelIdeal.Moe

end
-- ==== Proof.Mix.lean ====
/-
One token's mixture, over the extended reals: the weights of its two experts from the scores of all sixty-four, and why
two ways to compute the mixture agree when the scores are finite.
-/
module

public import Idealize.ShloMosaic.PureOps.Ideal.Laws
public import Idealize.ShloMosaic.Lib.Pointwise

@[expose] public section

noncomputable section

namespace Cert.Moe

open Idealize.ShloMosaic

/-- The greatest of a token's scores, from minus infinity. -/
def top (s : Fin 64 → EReal) : EReal := Finset.fold max (Ideal.ofBits .f32 0xFF800000#32) s Finset.univ

/-- The exponential of a score with the greatest subtracted. -/
def expo (s : Fin 64 → EReal) (e : Fin 64) : EReal := Ideal.exp (s e - top s)

/-- Its share of the sum over all experts. -/
def share (s : Fin 64 → EReal) (e : Fin 64) : EReal := Ideal.div (expo s e) (∑ e', expo s e')

/-- The two experts' products, weighted by their shares over the sum of the two shares. -/
def twoTerms (s y : Fin 64 → EReal) (a b : Fin 64) : EReal :=
  Ideal.div (share s a) (share s a + share s b) * y a + Ideal.div (share s b) (share s a + share s b) * y b

/-- The exponentials of the two named experts, zero elsewhere. -/
def named (s : Fin 64 → EReal) (a b e : Fin 64) : EReal := if e = a ∨ e = b then expo s e else 0

/-- Every expert's gate: zero but at the two named. -/
def gate (s : Fin 64 → EReal) (a b e : Fin 64) : EReal := Ideal.div (named s a b e) (∑ e', named s a b e')

/-- Every expert's product, weighted by its gate. -/
def allTerms (s y : Fin 64 → EReal) (a b : Fin 64) : EReal := ∑ e, gate s a b e * y e

/-- The word of minus infinity is the least extended real. -/
theorem word_bot : Ideal.ofBits .f32 0xFF800000#32 = ⊥ := by simp [Ideal.ofBits, Ideal.ieee]

/-- A quotient of real numbers, the divisor not zero. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The greatest of finite scores is finite. -/
theorem top_real (r : Fin 64 → ℝ) : ∃ μ : ℝ, top (fun e => (r e : EReal)) = (μ : EReal) := by
  have hb : top (fun e => (r e : EReal)) ≠ ⊥ := by
    refine ne_of_gt ?_
    unfold top
    rw [Finset.lt_fold_max]
    exact Or.inr ⟨0, Finset.mem_univ _, EReal.bot_lt_coe _⟩
  have ht : top (fun e => (r e : EReal)) ≠ ⊤ := by
    refine ne_of_lt ?_
    unfold top
    rw [Finset.fold_max_lt, word_bot]
    exact ⟨bot_lt_top, fun e _ => EReal.coe_lt_top _⟩
  exact ⟨_, (EReal.coe_toReal ht hb).symm⟩

/-- The exponentials of finite scores are positive real numbers. -/
theorem expo_real (r : Fin 64 → ℝ) : ∃ q : Fin 64 → ℝ, (∀ e, 0 < q e) ∧ expo (fun e => (r e : EReal)) = fun e => (q e : EReal) := by
  obtain ⟨μ, h⟩ := top_real r
  refine ⟨fun e => Real.exp (r e - μ), fun e => Real.exp_pos _, funext fun e => ?_⟩
  unfold expo
  rw [h, ← EReal.coe_sub]
  rfl

/-- A finite sum of real numbers, as an extended real, is the sum of them. -/
theorem coe_sum {n : ℕ} (q : Fin n → ℝ) : ((∑ e, q e : ℝ) : EReal) = ∑ e, (q e : EReal) :=
  map_sum (⟨⟨fun x : ℝ => (x : EReal), EReal.coe_zero⟩, EReal.coe_add⟩ : ℝ →+ EReal) q Finset.univ

/-- The two ways agree. -/
theorem all_two (r : Fin 64 → ℝ) (y : Fin 64 → EReal) (a b : Fin 64) :
    allTerms (fun e => (r e : EReal)) y a b = twoTerms (fun e => (r e : EReal)) y a b := by
  obtain ⟨q, hq, h⟩ := expo_real r
  have hS : 0 < ∑ e, q e := Finset.sum_pos (fun e _ => hq e) ⟨0, Finset.mem_univ _⟩
  have hs (e : Fin 64) : share (fun e => (r e : EReal)) e = ((q e / ∑ e', q e' : ℝ) : EReal) := by
    unfold share; rw [h, ← coe_sum, div_real _ _ hS.ne']
  have hn (e : Fin 64) : named (fun e => (r e : EReal)) a b e = ((if e = a ∨ e = b then q e else 0 : ℝ) : EReal) := by
    unfold named; rw [h]; split <;> simp
  have ht : 0 < ∑ e, (if e = a ∨ e = b then q e else 0 : ℝ) :=
    Finset.sum_pos' (fun e _ => by split; exacts [(hq e).le, le_rfl]) ⟨a, Finset.mem_univ _, by simpa using hq a⟩
  have hg (e : Fin 64) : gate (fun e => (r e : EReal)) a b e
      = (((if e = a ∨ e = b then q e else 0) / ∑ e', (if e' = a ∨ e' = b then q e' else 0) : ℝ) : EReal) := by
    unfold gate; simp only [hn]; rw [← coe_sum, div_real _ _ ht.ne']
  have h0 (e : Fin 64) (he : ¬ (e = a ∨ e = b)) : gate (fun e => (r e : EReal)) a b e * y e = 0 := by
    rw [hg, if_neg he, zero_div, EReal.coe_zero, zero_mul]
  unfold allTerms twoTerms
  have hp := add_pos (div_pos (hq a) hS) (div_pos (hq b) hS)
  rw [hs, hs, ← EReal.coe_add, div_real _ _ hp.ne', div_real _ _ hp.ne']
  by_cases hab : a = b
  · subst hab
    rw [Finset.sum_eq_single a (fun e _ he => h0 e (by simpa using he)) (fun ha => absurd (Finset.mem_univ _) ha), hg]
    have e1 : ∑ e', (if e' = a ∨ e' = a then q e' else 0 : ℝ) = q a := by simp
    have hh : q a / (∑ e', q e') / (q a / (∑ e', q e') + q a / ∑ e', q e') = 1 / 2 := by
      have := (hq a).ne'; field_simp; norm_num
    rw [e1, if_pos (Or.inl rfl), div_self (hq a).ne', hh,
      ← EReal.right_distrib_of_nonneg (by exact_mod_cast (by norm_num : (0 : ℝ) ≤ 1 / 2)) (by exact_mod_cast (by norm_num : (0 : ℝ) ≤ 1 / 2)),
      ← EReal.coe_add]
    norm_num
  · rw [Finset.sum_eq_add a b hab (fun e _ he => h0 e (by simpa [not_or] using he)) (fun ha => absurd (Finset.mem_univ _) ha)
      (fun ha => absurd (Finset.mem_univ _) ha), hg, hg]
    have e1 : ∑ e', (if e' = a ∨ e' = b then q e' else 0 : ℝ) = q a + q b := by
      rw [Finset.sum_eq_add a b hab (fun e _ he => if_neg (by simpa [not_or] using he)) (fun ha => absurd (Finset.mem_univ _) ha)
        (fun ha => absurd (Finset.mem_univ _) ha), if_pos (Or.inl rfl), if_pos (Or.inr rfl)]
    have hh (u : ℝ) : u / (∑ e', q e') / (q a / (∑ e', q e') + q b / ∑ e', q e') = u / (q a + q b) := by
      have := (add_pos (hq a) (hq b)).ne'; have := hS.ne'
      rw [← add_div, div_div_div_cancel_right₀ this]
    rw [e1, if_pos (Or.inl rfl), if_pos (Or.inr rfl), hh, hh]

end Cert.Moe
end
-- ==== Proof.IValue.lean ====
/-
The ideal kernel's values at an index: the gates as quotients of exponentials, one slot's experts as four weighted
products, and the whole result as a sum over the sixty-four experts.
-/
module

public import proofs.«01_k».proof.Proof.IWhole
public import proofs.«01_k».proof.Proof.Mix

@[expose] public section

noncomputable section

namespace Cert.KernelIdeal.Moe

open Idealize.ShloMosaic Idealize.ShloMosaic.TcCoe Idealize.SL.Sem
open Cert.KernelIdeal Cert.KernelIdeal.Gen
open Idealize.ShloMosaic.Pointwise

set_option maxRecDepth 16384

/-! ## One slot -/

/-- One expert's product, weighted and added. -/
theorem termPay_apply (k : Fin 4) (gb : FVec Ideal S1024x4 .f32) (xb : FVec Ideal S1024x256 .bf16) (w : FVec Ideal S1x1x256x512 .bf16)
    (a : FVec Ideal S1024x512 .f32) (t : Fin 1024) (h : Fin 512) :
    termPay k gb xb w a (ix2 t h) = a (ix2 t h) + gb (ix2 t k) * ∑ d : Fin 256, xb (ix2 t d) * w (ix4 0 0 d h) := by
  unfold termPay
  pointwise

/-- Expert `k` of device `n`, among all. -/
def expert (n : Fin 16) (k : Fin 4) : Fin 64 := ⟨4 * n.val + k.val, by omega⟩

/-- The comparison of an expert's number with `4 n + k`, on words, holds exactly at expert `k` of device `n`. -/
theorem word_eq (n : Fin 16) (k : Fin 4) (x : Fin 64) :
    IntOp.cmpi .eq (BitVec.ofNat 32 x.val) (IntOp.addi (Scalar.muli (BitVec.ofNat 32 n.val) 4#32) (BitVec.ofNat 32 k.val))
      = if x = expert n k then 1#1 else 0#1 := by
  revert n k x; decide +kernel

/-- The block of gate columns is the gates' columns at the device's experts. -/
theorem gblkPay_apply (n : Fin 16) (g : FVec Ideal S1024x64 .f32) (t : Fin 1024) (k : Fin 4) :
    gblkPay (BitVec.ofNat 32 n.val) g (ix2 t k) = g (ix2 t (expert n k)) := by
  unfold gblkPay
  pointwise
  simp only [word_eq]
  rw [Finset.sum_eq_single (expert n k) (fun e _ he => ?_) (fun h => absurd (Finset.mem_univ _) h), if_pos rfl]
  · show g (ix2 t (expert n k)) * (((1 : Int) : ℝ) : EReal) = _
    simp
  · rw [if_neg he]
    show g (ix2 t e) * (((0 : Int) : ℝ) : EReal) = _
    simp

variable (E : Dev nD → EBuf Ideal) (c : Dev nD) (g : FVec Ideal S1024x64 .f32) (xb : FVec Ideal S1024x256 .bf16)

/-- A token's product with one of device `n`'s experts. -/
def prod (n : Fin 16) (k : Fin 4) (t : Fin 1024) (h : Fin 512) : EReal := ∑ d : Fin 256, xb (ix2 t d) * E n (ix3 k d h)

/-- What device `n`'s experts add. -/
def part (n : Fin 16) (t : Fin 1024) (h : Fin 512) : EReal := ∑ k : Fin 4, g (ix2 t (expert n k)) * prod E xb n k t h

/-- Chunk `k` of slot `s` is expert `k` of the device `s` places to the left. -/
theorem wslot_comm (s : Fin 16) (k : Fin 4) (d : Fin 256) (h : Fin 512) :
    wslot s k (comm E c) (ix4 0 0 d h) = E (who c s) (ix3 k d h) := (wslot_apply s k _ _).trans (comm_emb E c s k d h 0 0)

/-- One slot's experts added into the result. -/
theorem accPay_apply (s : Fin 16) (a : FVec Ideal S1024x512 .f32) (t : Fin 1024) (h : Fin 512) (src : BitVec 32)
    (hs : src = BitVec.ofNat 32 (who c s).val) :
    accPay s src g xb (comm E c) a (ix2 t h) = a (ix2 t h) + part E g xb (who c s) t h := by
  subst hs
  unfold accPay part prod
  simp only [termPay_apply, gblkPay_apply, wslot_comm, shapeCast_self]
  rw [Fin.sum_univ_four]
  simp only [add_assoc]

/-! ## All slots -/

/-- Slot 0 is consumed with the device's own number, -/
theorem src_my (c : Fin 16) : myW c = BitVec.ofNat 32 (who c 0).val := by revert c; decide +kernel
/-- slot `n + 1` with that of the device as many places to the left, -/
theorem src_f (c : Fin 16) (n : Fin 8) : srcF c (n.val + 1) = BitVec.ofNat 32 (who c (Fin.ofNat 16 (n.val + 1))).val := by revert c n; decide +kernel
/-- and slot `15 - n` with that of the device as many places to the left. -/
theorem src_b (c : Fin 16) (n : Fin 7) : srcB c (n.val + 1) = BitVec.ofNat 32 (who c (Fin.ofNat 16 (15 - n.val))).val := by revert c n; decide +kernel

/-- A step that consumes two slots adds the parts of the two devices they came from. -/
theorem accTwo_apply (n : Fin 7) (a : FVec Ideal S1024x512 .f32) (t : Fin 1024) (h : Fin 512) :
    accTwo E c g xb n.val a (ix2 t h)
      = a (ix2 t h) + part E g xb (who c (Fin.ofNat 16 (n.val + 1))) t h + part E g xb (who c (Fin.ofNat 16 (15 - n.val))) t h := by
  unfold accTwo
  rw [accPay_apply _ _ _ _ _ _ _ _ _ (src_b c n), accPay_apply _ _ _ _ _ _ _ _ _ (src_f c ⟨n.val, by omega⟩)]

/-- The slots hold every device's experts once. -/
theorem who_bijective (c : Fin 16) : Function.Bijective (who c : Fin 16 → Fin 16) := by revert c; decide +kernel

/-- The whole result: every device's experts. -/
theorem result_parts (t : Fin 1024) (h : Fin 512) : result E c g xb (ix2 t h) = ∑ n : Fin 16, part E g xb n t h := by
  let p : Fin 16 → EReal := fun s => part E g xb (who c s) t h
  have h0 : acc E c g xb 0 (ix2 t h) = p 0 :=
    (accPay_apply E c g xb 0 zeros t h _ (src_my c)).trans ((congrArg (· + p 0) (show zeros (F := Ideal) (ix2 t h) = 0 from Ideal.ofBits_zero_f32)).trans (zero_add _))
  have hn (n : Fin 7) : acc E c g xb (n.val + 1) (ix2 t h) = acc E c g xb n.val (ix2 t h) + p (Fin.ofNat 16 (n.val + 1)) + p (Fin.ofNat 16 (15 - n.val)) :=
    accTwo_apply E c g xb n _ t h
  have h1 : acc E c g xb 1 (ix2 t h) = acc E c g xb 0 (ix2 t h) + p 1 + p 15 := hn 0
  have h2 : acc E c g xb 2 (ix2 t h) = acc E c g xb 1 (ix2 t h) + p 2 + p 14 := hn 1
  have h3 : acc E c g xb 3 (ix2 t h) = acc E c g xb 2 (ix2 t h) + p 3 + p 13 := hn 2
  have h4 : acc E c g xb 4 (ix2 t h) = acc E c g xb 3 (ix2 t h) + p 4 + p 12 := hn 3
  have h5 : acc E c g xb 5 (ix2 t h) = acc E c g xb 4 (ix2 t h) + p 5 + p 11 := hn 4
  have h6 : acc E c g xb 6 (ix2 t h) = acc E c g xb 5 (ix2 t h) + p 6 + p 10 := hn 5
  have h7 : acc E c g xb 7 (ix2 t h) = acc E c g xb 6 (ix2 t h) + p 7 + p 9 := hn 6
  have h8 : result E c g xb (ix2 t h) = acc E c g xb 7 (ix2 t h) + p 8 := accPay_apply E c g xb 8 _ t h _ (src_f c 7)
  rw [h8, h7, h6, h5, h4, h3, h2, h1, h0, ← Function.Bijective.sum_comp (who_bijective c) fun n => part E g xb n t h]
  show _ = ∑ s : Fin 16, p s
  simp only [Fin.sum_univ_succ, Fin.sum_univ_zero]
  show _ = p 0 + (p 1 + (p 2 + (p 3 + (p 4 + (p 5 + (p 6 + (p 7 + (p 8 + (p 9 + (p 10 + (p 11 + (p 12 + (p 13 + (p 14 + (p 15 + 0)))))))))))))))
  abel

/-- The experts in order. -/
def experts : Fin 16 × Fin 4 ≃ Fin 64 := finProdFinEquiv

/-- The experts in order, read at a device and a place on it. -/
theorem experts_apply (n : Fin 16) (k : Fin 4) : experts (n, k) = expert n k :=
  Fin.ext (by show k.val + 4 * n.val = 4 * n.val + k.val; omega)

/-- The sum over the devices and their experts is the sum over the experts. -/
theorem sum_experts (f : Fin 64 → EReal) : ∑ n : Fin 16, ∑ k : Fin 4, f (expert n k) = ∑ e, f e := by
  rw [← Fintype.sum_prod_type' (fun n k => f (expert n k)), ← Equiv.sum_comp experts f]
  exact Finset.sum_congr rfl fun z _ => congrArg f (experts_apply z.1 z.2).symm

/-! ## The gates -/

/-- The exponentials at an index are those of the token's scores. -/
theorem expPay_apply (x : FVec Ideal S1024x256 .bf16) (rw0 : FVec Ideal S256x64 .bf16) (t : Fin 1024) (e : Fin 64) :
    expPay x rw0 (ix2 t e) = Cert.Moe.expo (fun e' => ∑ d : Fin 256, x (ix2 t d) * rw0 (ix2 d e')) e := by
  unfold expPay Cert.Moe.expo Cert.Moe.top
  pointwise

/-- A selection by the comparison with either named expert, on words, is the choice by equality. -/
theorem sel_word (a b e : Fin 64) (p : EReal) :
    Scalar.select (IntOp.ori (IntOp.cmpi .eq (BitVec.ofNat 32 e.val) (BitVec.ofNat 32 a.val)) (IntOp.cmpi .eq (BitVec.ofNat 32 e.val) (BitVec.ofNat 32 b.val))) p 0
      = if e = a ∨ e = b then p else 0 := by
  have h : IntOp.ori (IntOp.cmpi .eq (BitVec.ofNat 32 e.val) (BitVec.ofNat 32 a.val)) (IntOp.cmpi .eq (BitVec.ofNat 32 e.val) (BitVec.ofNat 32 b.val))
      = if e = a ∨ e = b then 1#1 else 0#1 := by
    have h1 (u v : Fin 64) : IntOp.cmpi .eq (BitVec.ofNat 32 u.val) (BitVec.ofNat 32 v.val) = if u = v then 1#1 else 0#1 := by
      revert u v; decide +kernel
    rw [h1, h1]
    have h2 (P Q : Prop) [Decidable P] [Decidable Q] : IntOp.ori (if P then 1#1 else 0#1) (if Q then 1#1 else 0#1) = if P ∨ Q then 1#1 else 0#1 := by
      by_cases hP : P <;> by_cases hQ : Q <;> simp only [hP, hQ, or_self, or_true, true_or, if_true, if_false] <;> rfl
    exact h2 _ _
  rw [h]
  by_cases hc : e = a ∨ e = b
  · rw [if_pos hc, if_pos hc]; rfl
  · rw [if_neg hc, if_neg hc]; rfl

/-- The quotients at an index are the token's gates, when the two words name experts. -/
theorem gatePay_apply (p : FVec Ideal S1024x64 .f32) (i0 i1 : IVec S1024x1 32) (t : Fin 1024) (e a b : Fin 64)
    (ha : i0 (ix2 t 0) = BitVec.ofNat 32 a.val) (hb : i1 (ix2 t 0) = BitVec.ofNat 32 b.val) (s : Fin 64 → EReal)
    (hp : ∀ e', p (ix2 t e') = Cert.Moe.expo s e') :
    gatePay p i0 i1 (ix2 t e) = Cert.Moe.gate s a b e := by
  unfold gatePay Cert.Moe.gate Cert.Moe.named
  pointwise
  simp only [ha, hb, sel_word, hp]

/-- A token's scores. -/
def scores (x : FVec Ideal S1024x256 .bf16) (rw0 : FVec Ideal S256x64 .bf16) (t : Fin 1024) (e : Fin 64) : EReal :=
  ∑ d : Fin 256, x (ix2 t d) * rw0 (ix2 d e)

/-- A token's index column is its coordinates. -/
theorem idx_two {i : S1024x2.Idx} {t : Fin 1024} {k : Fin 2} (h0 : (i 0).val = t.val) (h1 : (i 1).val = k.val) : i = ix2 t k :=
  funext fun z => match z with
    | ⟨0, _⟩ => Fin.ext h0
    | ⟨1, _⟩ => Fin.ext h1

/-- The gates at an index. -/
theorem gates_apply (x : FVec Ideal S1024x256 .bf16) (rw0 : FVec Ideal S256x64 .bf16) (ix : IVec S1024x2 32) (t : Fin 1024) (e a b : Fin 64)
    (ha : ix (ix2 t 0) = BitVec.ofNat 32 a.val) (hb : ix (ix2 t 1) = BitVec.ofNat 32 b.val) :
    gates (F := Ideal) x rw0 ix (ix2 t e) = Cert.Moe.gate (scores x rw0 t) a b e := by
  have r0 : (ixM.access rI0).read (Elt Ideal) ix (ix2 t 0) = ix (ix2 t 0) := congrArg ix (idx_two (i := rI0.emb (ix2 t 0))
    (by rw [Rect.emb_apply]; show 0 + 1 * t.val = t.val; omega) (by rw [Rect.emb_apply]; rfl))
  have r1 : (ixM.access rI1).read (Elt Ideal) ix (ix2 t 0) = ix (ix2 t 1) := congrArg ix (idx_two (i := rI1.emb (ix2 t 0))
    (by rw [Rect.emb_apply]; show 0 + 1 * t.val = t.val; omega) (by rw [Rect.emb_apply]; rfl))
  unfold gates
  simp only [shapeCast_self]
  exact gatePay_apply _ _ _ t e a b (r0.trans ha) (r1.trans hb) _ fun e' => expPay_apply x rw0 t e'

/-- The tokens are read unchanged. -/
theorem toks_eq (x : FVec Ideal S1024x256 .bf16) : toks x = x := by
  unfold toks
  simp only [shapeCast_self]

/-- The result of a token at a column: every expert's product weighted by its gate. -/
theorem result_apply (x : FVec Ideal S1024x256 .bf16) (rw0 : FVec Ideal S256x64 .bf16) (ix : IVec S1024x2 32) (t : Fin 1024) (h : Fin 512) (a b : Fin 64)
    (ha : ix (ix2 t 0) = BitVec.ofNat 32 a.val) (hb : ix (ix2 t 1) = BitVec.ofNat 32 b.val) (y : Fin 64 → EReal)
    (hy : ∀ n k, y (expert n k) = prod E x n k t h) :
    result E c (gates (F := Ideal) x rw0 ix) (toks x) (ix2 t h) = Cert.Moe.allTerms (scores x rw0 t) y a b := by
  rw [result_parts, toks_eq]
  unfold part Cert.Moe.allTerms
  rw [← sum_experts]
  refine Finset.sum_congr rfl fun n _ => Finset.sum_congr rfl fun k _ => ?_
  rw [gates_apply x rw0 ix t _ a b ha hb, hy]

end Cert.KernelIdeal.Moe
end
-- ==== Proof.IOut.lean ====
module

public import proofs.«01_k».proof.Proof.ILaunch
public import proofs.«01_k».proof.Proof.IValue

/-! What the ideal kernel's result array holds after the run. -/

@[expose] public section

noncomputable section

namespace Cert.KernelIdeal.Moe

open Idealize.ShloMosaic Idealize.ShloMosaic.TcCoe Idealize.SL.Sem
open Cert.KernelIdeal Cert.KernelIdeal.Gen

set_option maxRecDepth 16384

variable (m : (ℓ : Loc nD τ sig) → Buf (Elt Ideal) ℓ) (ρ : Dev nD → PrngReg) (c : Dev nD)

/-! ## Each window's one block is its whole array -/

/-- The tokens staged are the first argument, -/
theorem xAt_eq : xAt m c = m ((c : Thread nD τ).loc main_arg0) :=
  Memref.read_access_unit_zero (Elt Ideal) main_arg0 (off := fun a => win0_0.index (0 : Fin 1) a * main_arg0.ty.shape.size a)
    (funext fun a => by fin_cases a <;> decide) (fun a => by fin_cases a <;> decide) _

/-- the router the second, -/
theorem wAt_eq : wAt m c = m ((c : Thread nD τ).loc main_arg1) :=
  Memref.read_access_unit_zero (Elt Ideal) main_arg1 (off := fun a => win0_1.index (0 : Fin 1) a * main_arg1.ty.shape.size a)
    (funext fun a => by fin_cases a <;> decide) (fun a => by fin_cases a <;> decide) _

/-- the choices the third, -/
theorem iAt_eq : iAt m c = m ((c : Thread nD τ).loc main_arg2) :=
  Memref.read_access_unit_zero (Elt Ideal) main_arg2 (off := fun a => win0_2.index (0 : Fin 1) a * main_arg2.ty.shape.size a)
    (funext fun a => by fin_cases a <;> decide) (fun a => by fin_cases a <;> decide) _

/-- and the experts the fourth. -/
theorem eAt_eq : eAt m c = m ((c : Thread nD τ).loc main_arg3) :=
  Memref.read_access_unit_zero (Elt Ideal) main_arg3 (off := fun a => win0_3.index (0 : Fin 1) a * main_arg3.ty.shape.size a)
    (funext fun a => by fin_cases a <;> decide) (fun a => by fin_cases a <;> decide) _

/-- The result's array after the run, read whole, is the result computed. -/
theorem finalA_out : finalA m c (4 : Fin 5) = outAt m c := by
  have h : (win0_4.blk (0 : Fin 1)).view.read (Elt Ideal) (finalA m c (4 : Fin 5)) = outAt m c := by
    unfold finalA
    rw [show cfg0.N = ((0 : Fin 1) : Fin cfg0.N).val + 1 from rfl, (dats m 0 c).arrAt_succ (4 : Fin 5) (0 : Fin 1)]
    rw [show (cfg0.win (4 : Fin 5)).flush (0 : Fin 1) = true from by decide, if_pos rfl]
    exact View.read_write_univ _ _
  refine Eq.trans ?_ h
  exact (Memref.read_access_unit_zero (Elt Ideal) main_v1 (off := fun a => win0_4.index (0 : Fin 1) a * main_v1.ty.shape.size a)
    (funext fun a => by fin_cases a <;> decide) (fun a => by fin_cases a <;> decide) _).symm

/-- The run read at the result and the arguments. -/
theorem out_main : θ_run defs (onTc (τ := τ) (main (F := Ideal))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c (4 : Fin 5)).trans (finalA_out m c), (h.1 c (0 : Fin 5)).trans (finalA_in m c 0 rfl),
    (h.1 c (1 : Fin 5)).trans (finalA_in m c 1 rfl), (h.1 c (2 : Fin 5)).trans (finalA_in m c 2 rfl), (h.1 c (3 : Fin 5)).trans (finalA_in m c 3 rfl)⟩) (run_main m ρ)

end Cert.KernelIdeal.Moe
end
-- ==== Proof.RValue.lean ====
module

public import proofs.«01_k».proof.Proof.Gen.ReferenceIdeal.Run
public import proofs.«01_k».proof.Proof.Mix
public import Idealize.ShloMosaic.Lib.Pointwise

/-! The reference's result at an index: the two named experts' shares of the token, weighted. -/

@[expose] public section

noncomputable section

namespace Cert.ReferenceIdeal.Moe

open Idealize.ShloMosaic Idealize.ShloMosaic.TcCoe Idealize.SL.Sem
open Cert.ReferenceIdeal Cert.ReferenceIdeal.Gen Cert.ReferenceIdeal.Value
open Idealize.ShloMosaic.Pointwise

set_option maxRecDepth 16384

/-! ## The reference's stages -/

/-- The scores of every token. -/
def logits (x : FVec Ideal S16384x256 .bf16) (w : FVec Ideal S256x64 .bf16) : FVec Ideal S16384x64 .f32 :=
  Host.dotGeneral dot_S16384x256_S256x64_S16384x64_1_0_0_1_n_n none x w

/-- Their exponentials, each row's maximum subtracted. -/
def expR (s : FVec Ideal S16384x64 .f32) : FVec Ideal S16384x64 .f32 :=
  Host.exp (subf s (broadcastInDim S16384x64 ![0, 1] bcast_S16384x1_S16384x64_0_1 (broadcastInDim S16384x1 ![0] bcast_S16384_S16384x1_0
    (Host.reduce FloatOps.maximumf s (constant S_ .f32 0xFF800000#32) reducesTo_S16384x64_S16384_d1 h_S_))))

/-- The exponentials over their row's sum. -/
def probR (p : FVec Ideal S16384x64 .f32) : FVec Ideal S16384x64 .f32 :=
  Host.divf p (broadcastInDim S16384x64 ![0, 1] bcast_S16384x1_S16384x64_0_1 (broadcastInDim S16384x1 ![0] bcast_S16384_S16384x1_0
    (Host.reduceAdd p (constant S_ .f32 0x00000000#32) reducesTo_S16384x64_S16384_d1 h_S_)))

/-- The tokens' first named experts. -/
def col0 (ix : IVec S16384x2 32) : IVec S16384 32 :=
  shapeCast S16384 (extractStridedSlice S16384x1 ![0, 0] ix slices_S16384x2_S16384x1_0_0) shapeCasts_S16384x1_S16384

/-- The tokens' second named experts. -/
def col1 (ix : IVec S16384x2 32) : IVec S16384 32 :=
  shapeCast S16384 (extractStridedSlice S16384x1 ![0, 1] ix slices_S16384x2_S16384x1_0_1) shapeCasts_S16384x1_S16384

/-- Named experts counted from the end where negative. -/
def wrapR (i : IVec S16384 32) : IVec S16384x1x1 32 :=
  shapeCast S16384x1x1 (select (cmpi .slt (broadcastInDim S16384x1 ![0] bcast_S16384_S16384x1_0 i) (broadcastInDim S16384x1 ![] bcast_S_S16384x1 (constantI S_ 32 0#32)))
    (addi (broadcastInDim S16384x1 ![0] bcast_S16384_S16384x1_0 i) (broadcastInDim S16384x1 ![] bcast_S_S16384x1 (constantI S_ 32 64#32)))
    (broadcastInDim S16384x1 ![0] bcast_S16384_S16384x1_0 i)) shapeCasts_S16384x1_S16384x1x1

/-- Each token's entry at its named expert. -/
def pickR (p : FVec Ideal S16384x64 .f32) (i : IVec S16384 32) : FVec Ideal S16384x1 .f32 :=
  Host.gather gather_S16384x64_S16384x1x1_S16384x1_n_1_0_0_1_2_11 p (wrapR i)

/-- Each token's product with its named expert's weights. -/
def prodR (x : FVec Ideal S16384x256 .bf16) (E : FVec Ideal S64x256x512 .bf16) (i : IVec S16384 32) : FVec Ideal S16384x512 .f32 :=
  Host.dotGeneral dot_S16384x256_S16384x256x512_S16384x512_1_1_n_2_0_0 none x
    (Host.gather gather_S64x256x512_S16384x1_S16384x256x512_12_0_n_n_0_1_1256512 E (broadcastInDim S16384x1 ![0] bcast_S16384_S16384x1_0 i))

/-- A product weighted by its part of the two experts' sum. -/
def mixR (a s : FVec Ideal S16384x1 .f32) (y : FVec Ideal S16384x512 .f32) : FVec Ideal S16384x512 .f32 :=
  mulf (broadcastInDim S16384x512 ![0, 1] bcast_S16384x1_S16384x512_0_1 (Host.divf a s)) y

/-- The reference's result from its arguments. -/
def refOut (x : FVec Ideal S16384x256 .bf16) (w : FVec Ideal S256x64 .bf16) (ix : IVec S16384x2 32) (E : FVec Ideal S64x256x512 .bf16) : FVec Ideal S16384x512 .f32 :=
  addf
    (mixR (pickR (probR (expR (logits x w))) (col0 ix)) (addf (pickR (probR (expR (logits x w))) (col0 ix)) (pickR (probR (expR (logits x w))) (col1 ix))) (prodR x E (col0 ix)))
    (mixR (pickR (probR (expR (logits x w))) (col1 ix)) (addf (pickR (probR (expR (logits x w))) (col0 ix)) (pickR (probR (expR (logits x w))) (col1 ix))) (prodR x E (col1 ix)))

/-- The reference's run ends at that result. -/
theorem res_eq (m : (ℓ : Loc nD τ sig) → Buf (Elt Ideal) ℓ) (c : Dev nD) :
    res_main_v29 m c = refOut (m ((c.tc : Thread nD τ).loc main_arg0)) (m ((c.tc : Thread nD τ).loc main_arg1)) (m ((c.tc : Thread nD τ).loc main_arg2)) (m ((c.tc : Thread nD τ).loc main_arg3)) := by
  unfold res_main_v29 refOut mixR prodR pickR wrapR col0 col1 probR expR logits
  rfl

/-! ## The stages at an index -/

/-- A score is a sum of products. -/
theorem logits_apply (x : FVec Ideal S16384x256 .bf16) (w : FVec Ideal S256x64 .bf16) (t : Fin 16384) (e : Fin 64) :
    logits x w (ix2 t e) = ∑ d : Fin 256, x (ix2 t d) * w (ix2 d e) := by
  unfold logits
  pointwise

/-- An exponential is of the score with the row's greatest subtracted. -/
theorem expR_apply (s : FVec Ideal S16384x64 .f32) (t : Fin 16384) (e : Fin 64) :
    expR s (ix2 t e) = Cert.Moe.expo (fun e' => s (ix2 t e')) e := by
  unfold expR Cert.Moe.expo Cert.Moe.top
  pointwise

/-- An entry is divided by its row's sum. -/
theorem probR_apply (p : FVec Ideal S16384x64 .f32) (t : Fin 16384) (e : Fin 64) :
    probR p (ix2 t e) = Ideal.div (p (ix2 t e)) (∑ e' : Fin 64, p (ix2 t e')) := by
  unfold probR
  pointwise

/-- The first named expert of a token -/
theorem col0_apply (ix : IVec S16384x2 32) (t : Fin 16384) : col0 ix (ix1 t) = ix (ix2 t 0) := by
  unfold col0
  pointwise

/-- and the second. -/
theorem col1_apply (ix : IVec S16384x2 32) (t : Fin 16384) : col1 ix (ix1 t) = ix (ix2 t 1) := by
  unfold col1
  pointwise

/-- A word that names an expert is left as it is. -/
theorem wrapR_apply (i : IVec S16384 32) (t : Fin 16384) (a : Fin 64) (h : i (ix1 t) = BitVec.ofNat 32 a.val) : wrapR i (ix3 t 0 0) = BitVec.ofNat 32 a.val := by
  have hw (a : Fin 64) : Scalar.select (IntOp.cmpi .slt (BitVec.ofNat 32 a.val) 0#32) (IntOp.addi (BitVec.ofNat 32 a.val) 64#32) (BitVec.ofNat 32 a.val) = BitVec.ofNat 32 a.val := by
    revert a; decide +kernel
  unfold wrapR
  pointwise
  rw [h]
  exact hw a

/-- A weighted product at an index. -/
theorem mixR_apply (a s : FVec Ideal S16384x1 .f32) (y : FVec Ideal S16384x512 .f32) (t : Fin 16384) (h : Fin 512) :
    mixR a s y (ix2 t h) = Ideal.div (a (ix2 t 0)) (s (ix2 t 0)) * y (ix2 t h) := by
  unfold mixR
  pointwise

/-- A named expert's word read back, held in the range of the 64. -/
theorem word_clamp (a : Fin 64) : min (BitVec.ofNat 32 a.val).toInt.toNat 63 = a.val := by
  revert a; decide +kernel

/-! ## The two gathers -/

/-- A token's entry at the column its index names. -/
theorem gather_pick (p : FVec Ideal S16384x64 .f32) (idx : IVec S16384x1x1 32) (t : Fin 16384) (a : Fin 64) (h : idx (ix3 t 0 0) = BitVec.ofNat 32 a.val) :
    Host.gather gather_S16384x64_S16384x1x1_S16384x1_n_1_0_0_1_2_11 p idx (ix2 t 0) = p (ix2 t a) := by
  have hk (y : S16384x1.Idx) (z : Fin 2) : gather_S16384x64_S16384x1x1_S16384x1_n_1_0_0_1_2_11.offCoord y z = 0 :=
    GatherDims.offCoord_eq_zero _ _ _ (by revert z; decide)
  unfold Host.gather
  congr 1
  funext z
  refine Fin.ext ?_
  show gather_S16384x64_S16384x1x1_S16384x1_n_1_0_0_1_2_11.start (ix2 t 0) idx z
    + gather_S16384x64_S16384x1x1_S16384x1_n_1_0_0_1_2_11.batchCoord (ix2 t 0) z
    + gather_S16384x64_S16384x1x1_S16384x1_n_1_0_0_1_2_11.offCoord (ix2 t 0) z = _
  rw [hk]
  match z with
  | ⟨0, _⟩ =>
    rw [GatherDims.start_batching _ _ _ _ (by clear * -; decide +revert)]
    unfold GatherDims.batchCoord
    rw [dif_pos (by clear * -; decide +revert)]
    show 0 + t.val + 0 = t.val
    omega
  | ⟨1, _⟩ =>
    rw [GatherDims.batchCoord_eq_zero _ _ _ (by clear * -; decide +revert)]
    unfold GatherDims.start
    rw [dif_pos (by clear * -; decide +revert)]
    have hs : gather_S16384x64_S16384x1x1_S16384x1_n_1_0_0_1_2_11.siIdx (ix2 t 0) ⟨0, Nat.one_pos⟩ = ix3 t 0 0 := by
      funext b
      refine Fin.ext ?_
      match b with
      | ⟨0, _⟩ => rfl
      | ⟨1, _⟩ => rfl
      | ⟨2, _⟩ => rfl
    refine Eq.trans ?_ (word_clamp a)
    show min (idx (gather_S16384x64_S16384x1x1_S16384x1_n_1_0_0_1_2_11.siIdx (ix2 t 0) ⟨0, _⟩)).toInt.toNat 63 + 0 + 0 = _
    rw [hs, h, Nat.add_zero]

/-- An expert's weights, the expert the token's index names. -/
theorem gather_expert (E : FVec Ideal S64x256x512 .bf16) (idx : IVec S16384x1 32) (t : Fin 16384) (d : Fin 256) (h : Fin 512) (a : Fin 64)
    (hi : idx (ix2 t 0) = BitVec.ofNat 32 a.val) :
    Host.gather gather_S64x256x512_S16384x1_S16384x256x512_12_0_n_n_0_1_1256512 E idx (ix3 t d h) = E (ix3 a d h) := by
  have hb (y : S16384x256x512.Idx) (z : Fin 3) : gather_S64x256x512_S16384x1_S16384x256x512_12_0_n_n_0_1_1256512.batchCoord y z = 0 :=
    GatherDims.batchCoord_eq_zero _ _ _ (by revert z; decide)
  unfold Host.gather
  congr 1
  funext z
  refine Fin.ext ?_
  show gather_S64x256x512_S16384x1_S16384x256x512_12_0_n_n_0_1_1256512.start (ix3 t d h) idx z
    + gather_S64x256x512_S16384x1_S16384x256x512_12_0_n_n_0_1_1256512.batchCoord (ix3 t d h) z
    + gather_S64x256x512_S16384x1_S16384x256x512_12_0_n_n_0_1_1256512.offCoord (ix3 t d h) z = _
  rw [hb]
  match z with
  | ⟨0, _⟩ =>
    rw [GatherDims.offCoord_eq_zero _ _ _ (by clear * -; decide +revert)]
    unfold GatherDims.start
    rw [dif_pos (by clear * -; decide +revert)]
    have hs : gather_S64x256x512_S16384x1_S16384x256x512_12_0_n_n_0_1_1256512.siIdx (ix3 t d h) ⟨0, Nat.one_pos⟩ = ix2 t 0 := by
      funext b
      refine Fin.ext ?_
      match b with
      | ⟨0, _⟩ => rfl
      | ⟨1, _⟩ => rfl
    refine Eq.trans ?_ (word_clamp a)
    show min (idx (gather_S64x256x512_S16384x1_S16384x256x512_12_0_n_n_0_1_1256512.siIdx (ix3 t d h) ⟨0, _⟩)).toInt.toNat 63 + 0 + 0 = _
    rw [hs, hi, Nat.add_zero]
  | ⟨1, _⟩ =>
    unfold GatherDims.start GatherDims.offCoord
    rw [dif_neg (by clear * -; decide +revert), dif_pos (by clear * -; decide +revert)]
    show 0 + 0 + d.val = d.val
    omega
  | ⟨2, _⟩ =>
    unfold GatherDims.start GatherDims.offCoord
    rw [dif_neg (by clear * -; decide +revert), dif_pos (by clear * -; decide +revert)]
    show 0 + 0 + h.val = h.val
    omega

/-! ## The result at an index -/

/-- The entry picked is the one at the named expert. -/
theorem pickR_apply (p : FVec Ideal S16384x64 .f32) (i : IVec S16384 32) (t : Fin 16384) (a : Fin 64) (h : i (ix1 t) = BitVec.ofNat 32 a.val) :
    pickR p i (ix2 t 0) = p (ix2 t a) :=
  gather_pick p _ t a (wrapR_apply i t a h)

/-- The product is with the named expert's weights. -/
theorem prodR_apply (x : FVec Ideal S16384x256 .bf16) (E : FVec Ideal S64x256x512 .bf16) (i : IVec S16384 32) (t : Fin 16384) (h : Fin 512) (a : Fin 64)
    (hi : i (ix1 t) = BitVec.ofNat 32 a.val) : prodR x E i (ix2 t h) = ∑ d : Fin 256, x (ix2 t d) * E (ix3 a d h) := by
  have hc : broadcastInDim S16384x1 ![0] bcast_S16384_S16384x1_0 i (ix2 t 0) = BitVec.ofNat 32 a.val := by
    pointwise
    exact hi
  have hg (d : Fin 256) := gather_expert E _ t d h a hc
  unfold prodR
  pointwise
  exact Finset.sum_congr rfl fun d _ => by rw [hg]

/-- A token's share of an expert. -/
theorem share_apply (x : FVec Ideal S16384x256 .bf16) (w : FVec Ideal S256x64 .bf16) (t : Fin 16384) (e : Fin 64) :
    probR (expR (logits x w)) (ix2 t e) = Cert.Moe.share (fun e => ∑ d : Fin 256, x (ix2 t d) * w (ix2 d e)) e := by
  rw [probR_apply]
  simp only [expR_apply, logits_apply]
  rfl

/-- The result of a token at a column: the two named experts' products, each weighted by its part of their shares. -/
theorem refOut_apply (x : FVec Ideal S16384x256 .bf16) (w : FVec Ideal S256x64 .bf16) (ix : IVec S16384x2 32) (E : FVec Ideal S64x256x512 .bf16)
    (t : Fin 16384) (h : Fin 512) (a b : Fin 64) (ha : ix (ix2 t 0) = BitVec.ofNat 32 a.val) (hb : ix (ix2 t 1) = BitVec.ofNat 32 b.val) :
    refOut x w ix E (ix2 t h) = Cert.Moe.twoTerms (fun e => ∑ d : Fin 256, x (ix2 t d) * w (ix2 d e)) (fun e => ∑ d : Fin 256, x (ix2 t d) * E (ix3 e d h)) a b := by
  have h0 := (col0_apply ix t).trans ha
  have h1 := (col1_apply ix t).trans hb
  unfold refOut Cert.Moe.twoTerms
  show mixR _ _ _ (ix2 t h) + mixR _ _ _ (ix2 t h) = _
  have hs (p q : FVec Ideal S16384x1 .f32) : addf p q (ix2 t 0) = p (ix2 t 0) + q (ix2 t 0) := rfl
  rw [mixR_apply, mixR_apply, hs, pickR_apply _ _ t a h0, pickR_apply _ _ t b h1, prodR_apply _ _ _ t h a h0, prodR_apply _ _ _ t h b h1, share_apply, share_apply]

end Cert.ReferenceIdeal.Moe
end
-- ==== Proof.Equation.lean ====
module

public import proofs.«01_k».proof.Defs
public import proofs.«01_k».proof.Proof.Gen.KernelIdeal
public import proofs.«01_k».proof.Proof.Gen.ReferenceIdeal
public import proofs.«01_k».proof.Proof.IOut
public import proofs.«01_k».proof.Proof.RValue

/-! Device `c`'s result is block `c` of the reference's. -/

@[expose] public section

noncomputable section

namespace Cert.Moe

open Idealize.ShloMosaic Idealize.ShloMosaic.TcCoe Idealize.SL.Sem
open Cert.KernelIdeal (S1024x256 S256x64 S1024x2 S4x256x512 S1024x512)
open Cert.ReferenceIdeal (S16384x256 S16384x2 S64x256x512 S16384x512)
open Cert.KernelIdeal.Moe (expert scores gates toks result prod result_apply)
open Cert.ReferenceIdeal.Moe (refOut refOut_apply)

set_option maxRecDepth 16384

/-! ## What the precondition says of an entry -/

/-- An extended real the precondition admits is a real number. -/
theorem real_of_holds (x : EReal)
    (h : IntOp.andi (Ideal.cmp .ogt x (Ideal.ofBits .bf16 0xFF80#16)) (Ideal.cmp .olt x (Ideal.ofBits .bf16 0x7F80#16)) = 1#1) :
    ∃ r : ℝ, x = (r : EReal) := by
  have e0 : Ideal.ofBits .bf16 0xFF80#16 = ⊥ := by simp [Ideal.ofBits, Ideal.ieee]
  have e1 : Ideal.ofBits .bf16 0x7F80#16 = ⊤ := by simp [Ideal.ofBits, Ideal.ieee]
  rw [e0, e1] at h
  induction x with
  | bot => exact absurd h (by simp [Ideal.cmp, IntOp.andi])
  | coe r => exact ⟨r, rfl⟩
  | top => exact absurd h (by simp [Ideal.cmp, IntOp.andi])

/-- A word the precondition admits names one of the 64 experts. -/
theorem expert_of_holds (v : BitVec 32) (h : IntOp.andi (IntOp.cmpi .sge v 0#32) (IntOp.cmpi .slt v 64#32) = 1#1) :
    ∃ a : Fin 64, v = BitVec.ofNat 32 a.val := by
  have hb (p q : Bool) : BitVec.ofBool p &&& BitVec.ofBool q = 1#1 → p = true ∧ q = true := by
    revert p q; decide
  obtain ⟨h0, h1⟩ := hb _ _ h
  rw [BitVec.sle_iff_toInt_le] at h0
  rw [BitVec.slt_iff_toInt_lt] at h1
  have e0 : (0#32).toInt = 0 := rfl
  have e1 : (64#32).toInt = 64 := rfl
  rw [e0] at h0
  rw [e1] at h1
  have hn : v.toNat < 64 := by
    rw [BitVec.toInt_eq_toNat_cond] at h0 h1
    have := v.isLt
    split at h0 <;> omega
  exact ⟨⟨v.toNat, hn⟩, BitVec.eq_of_toNat_eq (by rw [BitVec.toNat_ofNat, Nat.mod_eq_of_lt v.isLt])⟩

/-! ## Where a device's blocks lie -/

/-- Row `t` of device `c`, in the whole array. -/
def row (c : Fin 16) (t : Fin 1024) : Fin 16384 := ⟨c.val * 1024 + t.val, by have := c.isLt; have := t.isLt; omega⟩

/-- Row `t` of device `c`'s block, in an array cut along its rows -/
theorem idx_row {n : Nat} (hT : Layout.Tiles ⟨2, ![1024, n]⟩ ⟨2, ![16384, n]⟩ 0 16) (c : Fin 16) (t : Fin 1024) (k : Fin n) :
    hT.idx c (ix2 t k) = ix2 (row c t) k :=
  funext fun b => match b with
    | ⟨0, _⟩ => Fin.ext rfl
    | ⟨1, _⟩ => Fin.ext rfl

/-- and expert `k` of device `n`'s block, in the experts' array. -/
theorem idx_expert (hT : Layout.Tiles ⟨3, ![4, 256, 512]⟩ ⟨3, ![64, 256, 512]⟩ 0 16) (n : Fin 16) (k : Fin 4) (d : Fin 256) (h : Fin 512) :
    hT.idx n (ix3 k d h) = ix3 (expert n k) d h :=
  funext fun b => match b with
    | ⟨0, _⟩ => Fin.ext (show n.val * 4 + k.val = 4 * n.val + k.val by omega)
    | ⟨1, _⟩ => Fin.ext rfl
    | ⟨2, _⟩ => Fin.ext rfl

/-! ## The equation -/

/-- A sum of products of real numbers is one. -/
theorem scores_real (x : FVec Ideal S1024x256 .bf16) (w : FVec Ideal S256x64 .bf16) (hx : ∀ i, ∃ r : ℝ, x i = (r : EReal))
    (hw : ∀ i, ∃ r : ℝ, w i = (r : EReal)) (t : Fin 1024) : ∃ r : Fin 64 → ℝ, scores x w t = fun e => (r e : EReal) := by
  choose rx hx using hx
  choose rw' hw using hw
  refine ⟨fun e => ∑ d : Fin 256, rx (ix2 t d) * rw' (ix2 d e), funext fun e => ?_⟩
  show scores x w t e = ((∑ d : Fin 256, rx (ix2 t d) * rw' (ix2 d e) : ℝ) : EReal)
  rw [coe_sum]
  refine Finset.sum_congr rfl fun d _ => ?_
  rw [hx, hw, EReal.coe_mul]

/-- The kernel's result from device `c`'s blocks is block `c` of the reference's result from the whole arrays. -/
theorem result_block (X : FVec Ideal S16384x256 .bf16) (W : FVec Ideal S256x64 .bf16) (I : IVec S16384x2 32) (E : FVec Ideal S64x256x512 .bf16) (c : Fin 16)
    (hx : ∀ i, ∃ r : ℝ, Layout.block S1024x256 S16384x256 0 16 c X (by decide) i = (r : EReal)) (hw : ∀ i, ∃ r : ℝ, W i = (r : EReal))
    (hi : ∀ i, ∃ a : Fin 64, Layout.block S1024x2 S16384x2 0 16 c I (by decide) i = BitVec.ofNat 32 a.val) :
    result (fun d => Layout.block S4x256x512 S64x256x512 0 16 d E (by decide)) c
        (gates (F := Ideal) (Layout.block S1024x256 S16384x256 0 16 c X (by decide)) W (Layout.block S1024x2 S16384x2 0 16 c I (by decide)))
        (toks (Layout.block S1024x256 S16384x256 0 16 c X (by decide)))
      = Layout.block S1024x512 S16384x512 0 16 c (refOut X W I E) (by decide) := by
  funext i
  obtain ⟨t, h, rfl⟩ : ∃ (t : Fin 1024) (h : Fin 512), i = ix2 t h := ⟨i 0, i 1, funext fun b => match b with
    | ⟨0, _⟩ => rfl
    | ⟨1, _⟩ => rfl⟩
  obtain ⟨a, ha⟩ := hi (ix2 t 0)
  obtain ⟨b, hb⟩ := hi (ix2 t 1)
  obtain ⟨r, hr⟩ := scores_real _ W hx hw t
  rw [result_apply _ c _ W _ t h a b ha hb (fun e => ∑ d : Fin 256, X (ix2 (row c t) d) * E (ix3 e d h)) fun n k => by
    unfold prod
    exact Finset.sum_congr rfl fun d _ => congrArg₂ (· * ·) (congrArg X (idx_row _ c t d).symm) (congrArg E (idx_expert _ n k d h).symm), hr, all_two, ← hr]
  rw [Layout.block_apply, idx_row] at ha hb ⊢
  rw [refOut_apply X W I E (row c t) h a b ha hb]
  congr 1
  funext e
  unfold scores
  refine Finset.sum_congr rfl fun d _ => ?_
  rw [Layout.block_apply, idx_row]

/-! ## The claim -/

/-- The ideal kernel and the reference compute the same function: device `c` ends with block `c` of the reference's result. -/
theorem algebraic (h : Cert.Pre_routed_and_finite_KernelIdeal.Facts) :
    Cert.algebraic_KernelIdeal_ReferenceIdeal_pre_routed_and_finite_KernelIdeal
      (hKernelIdeal := Cert.KernelIdeal.Gen.facts) (hReferenceIdeal := Cert.ReferenceIdeal.Gen.facts) (hPre_routed_and_finite_KernelIdeal := h) := by
  intro m g m' g' hp hagree
  refine ⟨Cert.ReferenceIdeal.Value.res_main_v29 m' 0, ?_, ?_⟩
  · refine (θ_run Cert.KernelIdeal.defs _ _).mono (fun _ h c => ⟨(h c).1.trans ?_, (h c).2⟩) (Cert.KernelIdeal.Moe.out_main m g)
    obtain ⟨hx, hw, hi⟩ := hp c
    have hx' : ∀ i, ∃ r : ℝ, m ((c.tc : Thread Cert.KernelIdeal.nD Cert.KernelIdeal.τ).loc Cert.KernelIdeal.main_arg0) i = (r : EReal) := fun i => real_of_holds _ (congrFun hx i)
    have hw' : ∀ i, ∃ r : ℝ, m ((c.tc : Thread Cert.KernelIdeal.nD Cert.KernelIdeal.τ).loc Cert.KernelIdeal.main_arg1) i = (r : EReal) := fun i => real_of_holds _ (congrFun hw i)
    have hi' : ∀ i, ∃ a : Fin 64, m ((c.tc : Thread Cert.KernelIdeal.nD Cert.KernelIdeal.τ).loc Cert.KernelIdeal.main_arg2) i = BitVec.ofNat 32 a.val := fun i => expert_of_holds _ (congrFun hi i)
    have he : (fun d => Cert.KernelIdeal.Moe.eAt m d) = fun d => Layout.block S4x256x512 S64x256x512 0 16 d (m' (((0 : Dev Cert.ReferenceIdeal.nD).tc : Thread Cert.ReferenceIdeal.nD Cert.ReferenceIdeal.τ).loc Cert.ReferenceIdeal.main_arg3)) (by decide) :=
      funext fun d => (Cert.KernelIdeal.Moe.eAt_eq m d).trans (hagree d).2.2.2
    rw [(hagree c).1] at hx'
    rw [(hagree c).2.1] at hw'
    rw [(hagree c).2.2.1] at hi'
    rw [Cert.ReferenceIdeal.Moe.res_eq]
    unfold Cert.KernelIdeal.Moe.outAt Cert.KernelIdeal.Moe.gAt
    rw [show Cert.KernelIdeal.Moe.eAt m = fun d => Cert.KernelIdeal.Moe.eAt m d from rfl, he, (Cert.KernelIdeal.Moe.xAt_eq m c).trans (hagree c).1,
      (Cert.KernelIdeal.Moe.wAt_eq m c).trans (hagree c).2.1, (Cert.KernelIdeal.Moe.iAt_eq m c).trans (hagree c).2.2.1]
    exact result_block _ _ _ _ c hx' hw' hi'
  · exact (θ_run Cert.ReferenceIdeal.defs _ _).mono (fun _ h => h 0) (Cert.ReferenceIdeal.Value.run (F := Ideal) m' g')

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KLaunch
public import proofs.«01_k».proof.Proof.ILaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as printed runs, leaves its arguments and every counter as it found them. -/
theorem frame_kernel : Cert.quiescent_Kernel := fun m g _ => Cert.Kernel.Moe.frame_main m g

/-- So does the ideal kernel, -/
theorem frame_ideal : Cert.quiescent_KernelIdeal := fun m g _ => Cert.KernelIdeal.Moe.frame_main m g

/-- and the reference, which has no semaphore. -/
theorem frame_reference : Cert.quiescent_ReferenceIdeal := fun m g _ =>
  (θ_run _ _ _).mono (fun _ h => ⟨fun c => ⟨(h c).2.1, (h c).2.2.1, (h c).2.2.2.1, (h c).2.2.2.2⟩, funext fun gs => nomatch gs.2⟩)
    (Cert.ReferenceIdeal.Value.run (F := Ideal) m g)

/-- The shape conditions of the precondition, over one device's blocks -/
theorem pre_kernel : Cert.Pre_routed_and_finite_KernelIdeal.Facts := ⟨by decide, by decide, by decide⟩

/-- and over the reference's arrays. -/
theorem pre_reference : Cert.Pre_routed_and_finite_ReferenceIdeal.Facts := ⟨by decide, by decide, by decide⟩

/-- The kernel and the reference compute the same function over the extended reals. -/
theorem algebraic : Cert.algebraic_KernelIdeal_ReferenceIdeal_pre_routed_and_finite_KernelIdeal
    (hPre_routed_and_finite_KernelIdeal := pre_kernel) :=
  Cert.Moe.algebraic (h := pre_kernel)

/-- All the claims together. -/
theorem claim : Cert.Claim := ⟨Cert.Kernel.Gen.facts, Cert.KernelIdeal.Gen.facts, Cert.ReferenceIdeal.Gen.facts, pre_kernel, pre_reference,
  frame_kernel, frame_ideal, fun m g _ => Cert.KernelIdeal.Moe.frame_main m g, frame_reference, fun m g _ => frame_reference m g trivial, trivial, algebraic⟩

end Cert.Proof

end
